-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x2048x1024 : Shape := ⟨3, ![2, 2048, 1024]⟩
abbrev S2x2048 : Shape := ⟨2, ![2, 2048]⟩
abbrev S1024x16x64 : Shape := ⟨3, ![1024, 16, 64]⟩
abbrev S16x64x1024 : Shape := ⟨3, ![16, 64, 1024]⟩
abbrev S_ : Shape := ⟨0, ![]⟩
abbrev S2x2048x16x64 : Shape := ⟨4, ![2, 2048, 16, 64]⟩
abbrev S2x2048x16 : Shape := ⟨3, ![2, 2048, 16]⟩

class Facts : Prop where
  reducesTo_S2x2048x16x64_S2x2048x16_d3 : S2x2048x16x64.ReducesTo [3] S2x2048x16
  h_S_ : 0 < S_.numel
  reducesTo_S2x2048_S_d0_1 : S2x2048.ReducesTo [0, 1] S_
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1024x16x64 : S_.BroadcastsInDim S1024x16x64 (![] : Fin 0 → Fin S1024x16x64.rank)
  reducesTo_S1024x16x64_S_d0_1_2 : S1024x16x64.ReducesTo [0, 1, 2] S_
  bcast_S_S2x2048x16 : S_.BroadcastsInDim S2x2048x16 (![] : Fin 0 → Fin S2x2048x16.rank)
  reducesTo_S2x2048x16_S_d0_1_2 : S2x2048x16.ReducesTo [0, 1, 2] S_
  dot_S2x2048x1024_S1024x16x64_S2x2048x16x64_2_0_01_12_n_n_wf : DotDims.WF S2x2048x1024 S1024x16x64 S2x2048x16x64 [2] [0] [0, 1] [1, 2] [] []

variable [Facts]

def dot_S2x2048x1024_S1024x16x64_S2x2048x16x64_2_0_01_12_n_n : DotDims S2x2048x1024 S1024x16x64 S2x2048x16x64 where
  lhsContracting := [2]
  rhsContracting := [0]
  lhsNonContracting := [0, 1]
  rhsNonContracting := [1, 2]
  lhsBatch := []
  rhsBatch := []
  wf := dot_S2x2048x1024_S1024x16x64_S2x2048x16x64_2_0_01_12_n_n_wf
def fn_part1 {F : FTy → Type} [FloatOps F] (main_v2 : FVec F S2x2048x16 .f32) (main_v14 : IVec S_ 1) (main_v15 : FVec F S1024x16x64 .f32) (main_v16 : FVec F S1024x16x64 .f32) : IVec S_ 1 :=
  let main_v17 : IVec S1024x16x64 1 := cmpf .olt main_v15 main_v16
  let main_c_5 : IVec S_ 1 := constantI S_ 1 1#1
  let main_v18 : IVec S_ 1 := (fun x v => Host.reduce IntOp.andi x v reducesTo_S1024x16x64_S_d0_1_2 h_S_) main_v17 main_c_5
  let main_v19 : IVec S_ 1 := andi main_v14 main_v18
  let main_cst_6 : FVec F S_ .f32 := constant S_ .f32 0x00000000#32
  let main_v20 : FVec F S2x2048x16 .f32 := broadcastInDim S2x2048x16 ![] bcast_S_S2x2048x16 main_cst_6
  let main_v21 : IVec S2x2048x16 1 := cmpf .oeq main_v2 main_v20
  let main_cst_7 : FVec F S_ .f32 := constant S_ .f32 0x1A9ABE15#32
  let main_v22 : FVec F S2x2048x16 .f32 := broadcastInDim S2x2048x16 ![] bcast_S_S2x2048x16 main_cst_7
  let main_v23 : IVec S2x2048x16 1 := cmpf .oge main_v2 main_v22
  let main_v24 : IVec S2x2048x16 1 := ori main_v21 main_v23
  let main_c_8 : IVec S_ 1 := constantI S_ 1 1#1
  let main_v25 : IVec S_ 1 := (fun x v => Host.reduce IntOp.andi x v reducesTo_S2x2048x16_S_d0_1_2 h_S_) main_v24 main_c_8
  let main_v26 : IVec S_ 1 := andi main_v19 main_v25
  main_v26

def fn {F : FTy → Type} [FloatOps F] (main_arg0 : FVec F S2x2048x1024 .f32) (main_arg1 : IVec S2x2048 1) (main_arg2 : FVec F S1024x16x64 .f32) (main_arg3 : FVec F S1024x16x64 .f32) (main_arg4 : FVec F S16x64x1024 .f32) (main_arg5 : IVec S_ 32) : IVec S_ 1 :=
  let main_v0 : FVec F S2x2048x16x64 .f32 := (fun l r => Host.dotGeneral dot_S2x2048x1024_S1024x16x64_S2x2048x16x64_2_0_01_12_n_n none l r) main_arg0 main_arg2
  let main_v1 : FVec F S2x2048x16x64 .f32 := mulf main_v0 main_v0
  let main_cst : FVec F S_ .f32 := constant S_ .f32 0x00000000#32
  let main_v2 : FVec F S2x2048x16 .f32 := (fun x v => Host.reduceAdd x v reducesTo_S2x2048x16x64_S2x2048x16_d3 h_S_) main_v1 main_cst
  let main_v3 : IVec S2x2048 1 := noti main_arg1
  let main_c : IVec S_ 1 := constantI S_ 1 1#1
  let main_v4 : IVec S_ 1 := (fun x v => Host.reduce IntOp.andi x v reducesTo_S2x2048_S_d0_1 h_S_) main_v3 main_c
  let main_v5 : FVec F S2x2048x1024 .f32 := Host.absf main_arg0
  let main_cst_0 : FVec F S_ .f32 := constant S_ .f32 0x7F800000#32
  let main_v6 : FVec F S2x2048x1024 .f32 := broadcastInDim S2x2048x1024 ![] bcast_S_S2x2048x1024 main_cst_0
  let main_v7 : IVec S2x2048x1024 1 := cmpf .olt main_v5 main_v6
  let main_c_1 : IVec S_ 1 := constantI S_ 1 1#1
  let main_v8 : IVec S_ 1 := (fun x v => Host.reduce IntOp.andi x v reducesTo_S2x2048x1024_S_d0_1_2 h_S_) main_v7 main_c_1
  let main_v9 : IVec S_ 1 := andi main_v4 main_v8
  let main_v10 : FVec F S1024x16x64 .f32 := Host.absf main_arg2
  let main_cst_2 : FVec F S_ .f32 := constant S_ .f32 0x7F800000#32
  let main_v11 : FVec F S1024x16x64 .f32 := broadcastInDim S1024x16x64 ![] bcast_S_S1024x16x64 main_cst_2
  let main_v12 : IVec S1024x16x64 1 := cmpf .olt main_v10 main_v11
  let main_c_3 : IVec S_ 1 := constantI S_ 1 1#1
  let main_v13 : IVec S_ 1 := (fun x v => Host.reduce IntOp.andi x v reducesTo_S1024x16x64_S_d0_1_2 h_S_) main_v12 main_c_3
  let main_v14 : IVec S_ 1 := andi main_v9 main_v13
  let main_v15 : FVec F S1024x16x64 .f32 := Host.absf main_arg3
  let main_cst_4 : FVec F S_ .f32 := constant S_ .f32 0x7F800000#32
  let main_v16 : FVec F S1024x16x64 .f32 := broadcastInDim S1024x16x64 ![] bcast_S_S1024x16x64 main_cst_4
  fn_part1 (F := F) main_v2 main_v14 main_v15 main_v16
-- ==== Kernel.lean ====
abbrev S2x2048x1024 : Shape := ⟨3, ![2, 2048, 1024]⟩
abbrev S2x2048 : Shape := ⟨2, ![2, 2048]⟩
abbrev S1024x16x64 : Shape := ⟨3, ![1024, 16, 64]⟩
abbrev S16x64x1024 : Shape := ⟨3, ![16, 64, 1024]⟩
abbrev S_ : Shape := ⟨0, ![]⟩
abbrev S16x1024x64 : Shape := ⟨3, ![16, 1024, 64]⟩
abbrev S16x1024x1x64 : Shape := ⟨4, ![16, 1024, 1, 64]⟩
abbrev S16x1024x2x64 : Shape := ⟨4, ![16, 1024, 2, 64]⟩
abbrev S4x4x1024x128 : Shape := ⟨4, ![4, 4, 1024, 128]⟩
abbrev S4x1024x4x128 : Shape := ⟨4, ![4, 1024, 4, 128]⟩
abbrev S4x1024x512 : Shape := ⟨3, ![4, 1024, 512]⟩
abbrev S1x1024x1024 : Shape := ⟨3, ![1, 1024, 1024]⟩
abbrev S512x128 : Shape := ⟨2, ![512, 128]⟩
abbrev S1 : Shape := ⟨1, ![1]⟩
abbrev S2 : Shape := ⟨1, ![2]⟩
abbrev S64 : Shape := ⟨1, ![64]⟩
abbrev S1x512x128 : Shape := ⟨3, ![1, 512, 128]⟩
abbrev S1x2048x1024 : Shape := ⟨3, ![1, 2048, 1024]⟩
abbrev S1x1024x512 : Shape := ⟨3, ![1, 1024, 512]⟩
abbrev S2048x512 : Shape := ⟨2, ![2048, 512]⟩
abbrev S2048x256 : Shape := ⟨2, ![2048, 256]⟩
abbrev S2048x1024 : Shape := ⟨2, ![2048, 1024]⟩
abbrev S2048x128 : Shape := ⟨2, ![2048, 128]⟩
abbrev S2048x2048 : Shape := ⟨2, ![2048, 2048]⟩
abbrev S2048x64 : Shape := ⟨2, ![2048, 64]⟩
abbrev S1024x512 : Shape := ⟨2, ![1024, 512]⟩
abbrev S2048x1 : Shape := ⟨2, ![2048, 1]⟩
abbrev S1024x64 : Shape := ⟨2, ![1024, 64]⟩
abbrev S1024x1024 : Shape := ⟨2, ![1024, 1024]⟩

abbrev nBuf : Space → Nat
  | .hbm => 58
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i1⟩
  | .hbm, ⟨2, _⟩ => ⟨S1024x16x64, .f32⟩
  | .hbm, ⟨3, _⟩ => ⟨S1024x16x64, .f32⟩
  | .hbm, ⟨4, _⟩ => ⟨S16x64x1024, .f32⟩
  | .hbm, ⟨5, _⟩ => ⟨S_, .i32⟩
  | .hbm, ⟨6, _⟩ => ⟨S16x1024x64, .f32⟩
  | .hbm, ⟨7, _⟩ => ⟨S_, .f32⟩
  | .hbm, ⟨8, _⟩ => ⟨S16x1024x64, .f32⟩
  | .hbm, ⟨9, _⟩ => ⟨S16x1024x64, .f32⟩
  | .hbm, ⟨10, _⟩ => ⟨S16x1024x64, .f32⟩
  | .hbm, ⟨11, _⟩ => ⟨S16x1024x1x64, .f32⟩
  | .hbm, ⟨12, _⟩ => ⟨S16x1024x1x64, .f32⟩
  | .hbm, ⟨13, _⟩ => ⟨S16x1024x2x64, .f32⟩
  | .hbm, ⟨14, _⟩ => ⟨S4x4x1024x128, .f32⟩
  | .hbm, ⟨15, _⟩ => ⟨S4x1024x4x128, .f32⟩
  | .hbm, ⟨16, _⟩ => ⟨S4x1024x512, .f32⟩
  | .hbm, ⟨17, _⟩ => ⟨S4x1024x512, .bf16⟩
  | .hbm, ⟨18, _⟩ => ⟨S1x1024x1024, .f32⟩
  | .hbm, ⟨19, _⟩ => ⟨S1x1024x1024, .bf16⟩
  | .hbm, ⟨20, _⟩ => ⟨S_, .f32⟩
  | .hbm, ⟨21, _⟩ => ⟨S512x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S_, .f32⟩
  | .hbm, ⟨28, _⟩ => ⟨S64, .f32⟩
  | .hbm, ⟨29, _⟩ => ⟨S512x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S_, .f32⟩
  | .hbm, ⟨36, _⟩ => ⟨S64, .f32⟩
  | .hbm, ⟨37, _⟩ => ⟨S512x128, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S_, .f32⟩
  | .hbm, ⟨44, _⟩ => ⟨S64, .f32⟩
  | .hbm, ⟨45, _⟩ => ⟨S512x128, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S_, .f32⟩
  | .hbm, ⟨52, _⟩ => ⟨S64, .f32⟩
  | .hbm, ⟨53, _⟩ => ⟨S512x128, .f32⟩
  | .hbm, ⟨54, _⟩ => ⟨S1x512x128, .f32⟩
  | .hbm, ⟨55, _⟩ => ⟨S1x512x128, .bf16⟩
  | .hbm, ⟨56, _⟩ => ⟨S2x2048x1024, .bf16⟩
  | .hbm, ⟨57, _⟩ => ⟨S2x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x1024, .bf16⟩
  | .local _ .vmem, ⟨5, _⟩ => ⟨S1x512x128, .bf16⟩
  | .local _ .vmem, ⟨6, _⟩ => ⟨S1x2048x1024, .f32⟩
  | .local _ .vmem, ⟨7, _⟩ => ⟨S1x2048x1024, .f32⟩
  | .local _ .vmem, ⟨8, _⟩ => ⟨S2048x512, .bf16⟩
  | .local _ .vmem, ⟨9, _⟩ => ⟨S2048x256, .bf16⟩
  | .local _ .vmem, ⟨10, _⟩ => ⟨S2048x256, .bf16⟩
  | .local _ .vmem, ⟨11, _⟩ => ⟨S2048x1024, .bf16⟩
  | .local _ .vmem, ⟨12, _⟩ => ⟨S2048x128, .bf16⟩
  | .local _ .vmem, ⟨13, _⟩ => ⟨S2048x2048, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_c_9 : Ref sig .tc := ⟨.hbm, 46, rfl⟩
abbrev main_v29 : Ref sig .tc := ⟨.hbm, 47, rfl⟩
abbrev main_c_10 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c4_i32 : BitVec 32 := 4#32
  let v165 : BitVec 32 := Scalar.muli arg1 c4_i32
  let c1_i32 : BitVec 32 := 1#32
  let v166 : BitVec 32 := Scalar.addi v165 c1_i32
  let c1_i32_78 : BitVec 32 := 1#32
  let v167 : BitVec 32 := Scalar.subi v166 c1_i32_78
  let c64_i32 : BitVec 32 := 64#32
  let v168 : BitVec 32 := Scalar.muli v167 c64_i32
  v168
def k0_off1 (i : grid0.Coords) (c1_i32 : BitVec 32) : Fin 2 → Nat :=
  let c0_81 : Index := 0#32
  let arg1 : BitVec 32 := BitVec.ofNat 32 (i 1).val
  let c4_i32 : BitVec 32 := 4#32
  let v165 : BitVec 32 := Scalar.muli arg1 c4_i32
  let v166 : BitVec 32 := Scalar.addi v165 c1_i32
  let c1_i32_78 : BitVec 32 := 1#32
  let v167 : BitVec 32 := Scalar.subi v166 c1_i32_78
  let c64_i32 : BitVec 32 := 64#32
  let v168 : BitVec 32 := Scalar.muli v167 c64_i32
  let v169 : BitVec 32 := v168
  let v171 : Index := Scalar.indexCast v169
  ![0, v171.toNat]
def k0_mult2 (i : grid0.Coords) : BitVec 32 :=
  let arg1 : BitVec 32 := BitVec.ofNat 32 (i 1).val
  let c4_i32_128 : BitVec 32 := 4#32
  let v255 : BitVec 32 := Scalar.muli arg1 c4_i32_128
  let c3_i32 : BitVec 32 := 3#32
  let v256 : BitVec 32 := Scalar.addi v255 c3_i32
  let c1_i32_129 : BitVec 32 := 1#32
  let v257 : BitVec 32 := Scalar.subi v256 c1_i32_129
  let c64_i32_130 : BitVec 32 := 64#32
  let v258 : BitVec 32 := Scalar.muli v257 c64_i32_130
  v258
def k0_cond2 (i : grid0.Coords) : BitVec 1 :=
  let arg1 : BitVec 32 := BitVec.ofNat 32 (i 1).val
  let c3_i32_134 : BitVec 32 := 3#32
  let v265 : BitVec 1 := Scalar.cmpi .eq arg1 c3_i32_134
  let v266 : BitVec 32 := Scalar.extui v265
  let c0_i32_135 : BitVec 32 := 0#32
  let v267 : BitVec 1 := Scalar.cmpi .ne v266 c0_i32_135
  v267

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S2x2048x1024 : Shape := ⟨3, ![2, 2048, 1024]⟩
abbrev S2x2048 : Shape := ⟨2, ![2, 2048]⟩
abbrev S1024x16x64 : Shape := ⟨3, ![1024, 16, 64]⟩
abbrev S16x64x1024 : Shape := ⟨3, ![16, 64, 1024]⟩
abbrev S_ : Shape := ⟨0, ![]⟩
abbrev S2x2048x16x64 : Shape := ⟨4, ![2, 2048, 16, 64]⟩
abbrev S2x2048x16 : Shape := ⟨3, ![2, 2048, 16]⟩
abbrev S2x2048x16x1 : Shape := ⟨4, ![2, 2048, 16, 1]⟩
abbrev S2x16x2048x2048 : Shape := ⟨4, ![2, 16, 2048, 2048]⟩
abbrev S2x1x1x2048 : Shape := ⟨4, ![2, 1, 1, 2048]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i1⟩
  | .hbm, ⟨2, _⟩ => ⟨S1024x16x64, .f32⟩
  | .hbm, ⟨3, _⟩ => ⟨S1024x16x64, .f32⟩
  | .hbm, ⟨4, _⟩ => ⟨S16x64x1024, .f32⟩
  | .hbm, ⟨5, _⟩ => ⟨S_, .i32⟩
  | .hbm, ⟨6, _⟩ => ⟨S2x2048x16x64, .f32⟩
  | .hbm, ⟨7, _⟩ => ⟨S2x2048x16x64, .f32⟩
  | .hbm, ⟨8, _⟩ => ⟨S2x2048x16x64, .f32⟩
  | .hbm, ⟨9, _⟩ => ⟨S_, .f32⟩
  | .hbm, ⟨10, _⟩ => ⟨S2x2048x16, .f32⟩
  | .hbm, ⟨11, _⟩ => ⟨S2x2048x16x1, .f32⟩
  | .hbm, ⟨12, _⟩ => ⟨S2x2048x16x1, .f32⟩
  | .hbm, ⟨13, _⟩ => ⟨S_, .f32⟩
  | .hbm, ⟨14, _⟩ => ⟨S2x2048x16x1, .f32⟩
  | .hbm, ⟨15, _⟩ => ⟨S2x2048x16x1, .f32⟩
  | .hbm, ⟨16, _⟩ => ⟨S2x2048x16x64, .f32⟩
  | .hbm, ⟨17, _⟩ => ⟨S2x2048x16x64, .f32⟩
  | .hbm, ⟨18, _⟩ => ⟨S_, .f32⟩
  | .hbm, ⟨19, _⟩ => ⟨S2x2048x16x64, .f32⟩
  | .hbm, ⟨20, _⟩ => ⟨S2x2048x16x64, .f32⟩
  | .hbm, ⟨21, _⟩ => ⟨S2x16x2048x2048, .f32⟩
  | .hbm, ⟨22, _⟩ => ⟨S2x2048, .f32⟩
  | .hbm, ⟨23, _⟩ => ⟨S2x1x1x2048, .f32⟩
  | .hbm, ⟨24, _⟩ => ⟨S_, .f32⟩
  | .hbm, ⟨25, _⟩ => ⟨S2x1x1x2048, .f32⟩
  | .hbm, ⟨26, _⟩ => ⟨S2x1x1x2048, .f32⟩
  | .hbm, ⟨27, _⟩ => ⟨S2x16x2048x2048, .f32⟩
  | .hbm, ⟨28, _⟩ => ⟨S2x16x2048x2048, .f32⟩
  | .hbm, ⟨29, _⟩ => ⟨S2048x2048, .i32⟩
  | .hbm, ⟨30, _⟩ => ⟨S2048x2048, .i32⟩
  | .hbm, ⟨31, _⟩ => ⟨S_, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S1x1x2048x2048, .i1⟩
  | .hbm, ⟨36, _⟩ => ⟨S_, .f32⟩
  | .hbm, ⟨37, _⟩ => ⟨S_, .f32⟩
  | .hbm, ⟨38, _⟩ => ⟨S2x16x2048x2048, .i1⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S_, .f32⟩
  | .hbm, ⟨44, _⟩ => ⟨S2x16x2048, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S_, .f32⟩
  | .hbm, ⟨51, _⟩ => ⟨S2x16x2048, .f32⟩
  | .hbm, ⟨52, _⟩ => ⟨S2x16x2048x1, .f32⟩
  | .hbm, ⟨53, _⟩ => ⟨S2x16x2048x2048, .f32⟩
  | .hbm, ⟨54, _⟩ => ⟨S2x16x2048x2048, .f32⟩
  | .hbm, ⟨55, _⟩ => ⟨S2x16x64x2048, .f32⟩
  | .hbm, ⟨56, _⟩ => ⟨S2x2048x16x64, .f32⟩
  | .hbm, ⟨57, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Proof.Words.Run.lean ====
/- The body's run, whatever the float operations are: nothing is said of what it computes, only that it runs to its end
   within the buffers it is given and leaves its inputs' blocks as they were. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Words

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional: the first group of heads of a batch entry. -/
abbrev opens (i : grid0.Coords) : Prop :=
  (Scalar.cmpi .ne (Scalar.extui (Scalar.cmpi .eq (BitVec.ofNat 32 (i 1).val) 0#32)) 0#32) = 1#1

/-- The body's second conditional: the last group of heads of a batch entry. -/
abbrev closes (i : grid0.Coords) : Prop := k0_cond2 i = 1#1

/-- What the body holds before and after its run: the four inputs' staging buffers at known blocks, the output's and
    the six scratch buffers at any contents. -/
def holds (c : Dev nD) (arg2 : Memref sig .tc .vmem S1x2048x1024 .bf16) (arg3 : Memref sig .tc .vmem S1x1024x512 .bf16) (arg4 : Memref sig .tc .vmem S1x1024x1024 .bf16) (arg5 : Memref sig .tc .vmem S1x512x128 .bf16) (arg6 : Memref sig .tc .vmem S1x2048x1024 .f32) (arg7 : Memref sig .tc .vmem S2048x512 .bf16) (arg8 : Memref sig .tc .vmem S2048x256 .bf16) (arg9 : Memref sig .tc .vmem S2048x256 .bf16) (arg10 : Memref sig .tc .vmem S2048x1024 .bf16) (arg11 : Memref sig .tc .vmem S2048x128 .bf16) (arg12 : Memref sig .tc .vmem S2048x2048 .bf16)
    (x0 : Vec F S1x2048x1024 .bf16) (x1 : Vec F S1x1024x512 .bf16) (x2 : Vec F S1x1024x1024 .bf16) (x3 : Vec F S1x512x128 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d))

set_option maxHeartbeats 4000000 in
/-- The body's run at any grid coordinates: each of its conditionals may be taken or not. -/
theorem runs (c : Dev nD) (i : grid0.Coords)
    (arg2 : Memref sig .tc .vmem S1x2048x1024 .bf16) (harg2 : arg2.IsWhole)
    (arg3 : Memref sig .tc .vmem S1x1024x512 .bf16) (harg3 : arg3.IsWhole)
    (arg4 : Memref sig .tc .vmem S1x1024x1024 .bf16) (harg4 : arg4.IsWhole)
    (arg5 : Memref sig .tc .vmem S1x512x128 .bf16) (harg5 : arg5.IsWhole)
    (arg6 : Memref sig .tc .vmem S1x2048x1024 .f32) (harg6 : arg6.IsWhole)
    (arg7 : Memref sig .tc .vmem S2048x512 .bf16) (harg7 : arg7.IsWhole)
    (arg8 : Memref sig .tc .vmem S2048x256 .bf16) (harg8 : arg8.IsWhole)
    (arg9 : Memref sig .tc .vmem S2048x256 .bf16) (harg9 : arg9.IsWhole)
    (arg10 : Memref sig .tc .vmem S2048x1024 .bf16) (harg10 : arg10.IsWhole)
    (arg11 : Memref sig .tc .vmem S2048x128 .bf16) (harg11 : arg11.IsWhole)
    (arg12 : Memref sig .tc .vmem S2048x2048 .bf16) (harg12 : arg12.IsWhole)
    (x0 : Vec F S1x2048x1024 .bf16) (x1 : Vec F S1x1024x512 .bf16) (x2 : Vec F S1x1024x1024 .bf16) (x3 : Vec F S1x512x128 .bf16) (E : Set ℕ) (K : PUnit → sProp 𝕄) :
    iprop(holds c arg2 arg3 arg4 arg5 arg6 arg7 arg8 arg9 arg10 arg11 arg12 x0 x1 x2 x3 ∗ (holds c arg2 arg3 arg4 arg5 arg6 arg7 arg8 arg9 arg10 arg11 arg12 x0 x1 x2 x3 -∗ K ⟨⟩))
      ⊢ wp frame (wpE (defs₀ (F := F)) Variants.none c none) E (cc0__fused_attn_kernel i arg2 harg2 arg3 harg3 arg4 harg4 arg5 harg5 arg6 harg6 arg7 harg7 arg8 harg8 arg9 harg9 arg10 harg10 arg11 harg11 arg12 harg12) K := by
  by_cases hc0 : opens i <;> by_cases hc1 : closes i
  all_goals
    simp only [cc0__fused_attn_kernel_eq_skeleton]; unfold cc0__fused_attn_kernel_skel
    simp only [k0_part1_eq_skeleton, k0_part2_eq_skeleton, k0_part3_eq_skeleton, k0_part4_eq_skeleton, k0_part5_eq_skeleton, k0_part6_eq_skeleton, k0_part7_eq_skeleton]
    unfold holds owns
    iintro ⟨⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩⟩, Hk⟩
    sl_exec (disch := first | sl_exact hc0 | sl_exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Words

end
-- ==== Proof.Words.Frame.lean ====
/- The frame of the kernel as printed: it runs to its end on every memory and leaves its arguments as they were, every
   counter at zero. What it leaves in its output array is not named here. -/
module

public import proofs.«01_k».proof.Proof.Words.Run
public import Idealize.ShloMosaic.Lib.Claim

@[expose] public section

set_option maxRecDepth 16384

noncomputable section

namespace Cert.Kernel.Words

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers as memrefs. -/
abbrev scr0 : Memref sig .tc .vmem S2048x512 .bf16 := Memref.whole cc0_scratch0
abbrev scr1 : Memref sig .tc .vmem S2048x256 .bf16 := Memref.whole cc0_scratch1
abbrev scr2 : Memref sig .tc .vmem S2048x256 .bf16 := Memref.whole cc0_scratch2
abbrev scr3 : Memref sig .tc .vmem S2048x1024 .bf16 := Memref.whole cc0_scratch3
abbrev scr4 : Memref sig .tc .vmem S2048x128 .bf16 := Memref.whole cc0_scratch4
abbrev scr5 : Memref sig .tc .vmem S2048x2048 .bf16 := Memref.whole cc0_scratch5

/-- The launch's invariant: each scratch buffer at some contents, and the generator register at some state. -/
theorem launch_inv (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d) ∗ (∃ d, owns (c : Thread nD τ) scr3 fullShare d)
          ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

/-- The output's window, whose contents are not named. -/
def unnamed : Fin 5 → Bool := fun w => w.val == 4

/-- The proof data: the arrays as the region finds them, each input's buffer left at its block, and the launch's
    invariant throughout. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed (cfg := cfg0) ⟨4, h⟩ t
  Φ _ := Pipeline.ΦA spec0 c
  q _ := fullShare
  owed _ := 0

theorem data_A (c : Dev nD) (w : Fin cfg0.W) : (data m 0 c).A w = V m c (Pipeline.arrRef spec0 w) := by
  dsimp only [data]

theorem leaves0 (c : Dev nD) (t : Fin cfg0.N) : (data m 0 c).after 0 t = iblk m c 0 t := by dsimp only [data]
theorem leaves1 (c : Dev nD) (t : Fin cfg0.N) : (data m 0 c).after 1 t = iblk m c 1 t := by dsimp only [data]
theorem leaves2 (c : Dev nD) (t : Fin cfg0.N) : (data m 0 c).after 2 t = iblk m c 2 t := by dsimp only [data]
theorem leaves3 (c : Dev nD) (t : Fin cfg0.N) : (data m 0 c).after 3 t = iblk m c 3 t := by dsimp only [data]

theorem finds0 (c : Dev nD) (t : Fin cfg0.N) (d) : (data m 0 c).before 0 t d = iblk m c 0 t :=
  before0_0_of m (data m 0 c) (data_A m c 0) (leaves0 m c) t d
theorem finds1 (c : Dev nD) (t : Fin cfg0.N) (d) : (data m 0 c).before 1 t d = iblk m c 1 t :=
  before0_1_of m (data m 0 c) (data_A m c 1) (leaves1 m c) t d
theorem finds2 (c : Dev nD) (t : Fin cfg0.N) (d) : (data m 0 c).before 2 t d = iblk m c 2 t :=
  before0_2_of m (data m 0 c) (data_A m c 2) (leaves2 m c) t d
theorem finds3 (c : Dev nD) (t : Fin cfg0.N) (d) : (data m 0 c).before 3 t d = iblk m c 3 t :=
  before0_3_of m (data m 0 c) (data_A m c 3) (leaves3 m c) t d

/-! ## The body at a point -/

theorem stays0 (c : Dev nD) (t : Fin cfg0.N) :
    (data m 0 c).leavesExact 0 t = owns (c : Thread nD τ) (win0_0.stage (cfg0.slots t 0)) fullShare (iblk m c 0 t) := by
  unfold Dat.leavesExact; rw [show cfg0.idle 0 (cfg0.grid.coords t) = false from rfl, leaves0]
theorem stays1 (c : Dev nD) (t : Fin cfg0.N) :
    (data m 0 c).leavesExact 1 t = owns (c : Thread nD τ) (win0_1.stage (cfg0.slots t 1)) fullShare (iblk m c 1 t) := by
  unfold Dat.leavesExact; rw [show cfg0.idle 1 (cfg0.grid.coords t) = false from rfl, leaves1]
theorem stays2 (c : Dev nD) (t : Fin cfg0.N) :
    (data m 0 c).leavesExact 2 t = owns (c : Thread nD τ) (win0_2.stage (cfg0.slots t 2)) fullShare (iblk m c 2 t) := by
  unfold Dat.leavesExact; rw [show cfg0.idle 2 (cfg0.grid.coords t) = false from rfl, leaves2]
theorem stays3 (c : Dev nD) (t : Fin cfg0.N) :
    (data m 0 c).leavesExact 3 t = owns (c : Thread nD τ) (win0_3.stage (cfg0.slots t 3)) fullShare (iblk m c 3 t) := by
  unfold Dat.leavesExact; rw [show cfg0.idle 3 (cfg0.grid.coords t) = false from rfl, leaves3]

def atStart (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d))
    ∗ (∃ d, owns (c : Thread nD τ) (win0_4.stage (cfg0.slots t 4)) fullShare d))

def atEnd (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (∃ d, owns (c : Thread nD τ) (win0_4.stage (cfg0.slots t 4)) fullShare d))

theorem body_runs (c : Dev nD) (t : Fin cfg0.N) :
    atStart m c t ⊢ wp frame (wpE (defs₀ (F := F)) Variants.none c none) Set.univ (bodyAt0 t) (fun _ => atEnd m c t) := by
  unfold atStart atEnd bodyAt0
  simp only [finds0, finds1, finds2, finds3]
  rw [show (data m 0 c).owesAt () t.succ = (data m 0 c).owesAt () t.castSucc from rfl,
    show (data m 0 c).Φ t.succ = Pipeline.ΦA spec0 c from rfl, show (data m 0 c).Φ t.castSucc = Pipeline.ΦA spec0 c from rfl,
    launch_inv, stays0, stays1, stays2, stays3]
  iintro ⟨⟨⟨HS0, HS1, HS2, HS3, HS4, HS5⟩, Hg⟩, Ho, ⟨%e0, H0⟩, ⟨%e1, H1⟩, ⟨%e2, H2⟩, ⟨%e3, H3⟩, H4⟩
  iapply (runs c (grid0.coords t) _ _ _ _ _ _ _ _ _ _ _ _ _ _ _ _ _ _ _ _ _ _ (iblk m c 0 t) (iblk m c 1 t) (iblk m c 2 t) (iblk m c 3 t))
  unfold holds
  isplitl [H0 H1 H2 H3 H4 HS0 HS1 HS2 HS3 HS4 HS5]
  · isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iexact HS5
  iintro ⟨H0, H1, H2, H3, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  iexact H4

/-- The body table's row at point `t`'s slots. -/
theorem row_at (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ unnamed := fun t => by
  rw [bigSep_W0, bigSep_W0, row_at]
  exact triple_restated (body_runs m c t) rfl .rfl fun _ => .rfl

/-! ## The launch -/

set_option backward.isDefEq.respectTransparency.types false in
theorem launches : θ_run defs (onTc (τ := τ) (main (F := F))) (s₀ m ρ)
    (fun r => Pipeline.RDat.FramePost (cfgs 0) (fun c => (data m 0 c).toRForget unnamed) (V m) r ∧ r.2.sem = fun _ => 0) :=
  Pipeline.θ_run_frame_forget (Q' := _) cfgs (data m) (0 : Fin 1) launch0 defs₀ Variants.none unnamed m ρ main
    (hbody := fun c => (obligation m c).loose) (hshare := fun c => (data m 0 c).share_full fun _ => rfl)
    (howed := fun _ _ => rfl) (V := V m) (hmain := hmain m Variants.none) (hA := data_A m) (hΦ := fun _ _ => rfl)

/-- The kernel runs, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => by
    refine ⟨fun c => ?_, h.2⟩
    have kept := (h.1 c).2
    refine ⟨?_, ?_, ?_, ?_, ?_, ?_⟩
    · exact (kept main_arg0 (Pipeline.mem_restRefs_of main_arg0 (by decide) (by decide))).trans (V_main_arg0 m c)
    · exact (kept main_arg1 (Pipeline.mem_restRefs_of main_arg1 (by decide) (by decide))).trans (V_main_arg1 m c)
    · exact (kept main_arg2 (Pipeline.mem_restRefs_of main_arg2 (by decide) (by decide))).trans (V_main_arg2 m c)
    · exact (kept main_arg3 (Pipeline.mem_restRefs_of main_arg3 (by decide) (by decide))).trans (V_main_arg3 m c)
    · exact (kept main_arg4 (Pipeline.mem_restRefs_of main_arg4 (by decide) (by decide))).trans (V_main_arg4 m c)
    · exact (kept main_arg5 (Pipeline.mem_restRefs_of main_arg5 (by decide) (by decide))).trans (V_main_arg5 m c)) (launches m ρ)

end Cert.Kernel.Words

end
-- ==== Proof.Attn.Setup.lean ====
/- The launch's set-up for the kernel read over the extended reals: which points take which branch of the body, and the
   memrefs that the body is called with. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional: the grid's second coordinate is zero (the first group of heads of a batch entry). -/
abbrev isFirst (i : grid0.Coords) : Prop :=
  (Scalar.cmpi .ne (Scalar.extui (Scalar.cmpi .eq (BitVec.ofNat 32 (i 1).val) 0#32)) 0#32) = 1#1

/-- The body's second conditional: the grid's second coordinate is the last (the last group of heads). -/
abbrev isLast (i : grid0.Coords) : Prop := k0_cond2 i = 1#1

theorem isFirst_iff : ∀ t : Fin cfg0.N, isFirst (grid0.coords t) ↔ t.val % 4 = 0 :=
  (fun t => by
    have ht : t.val < 8 := Nat.lt_of_lt_of_eq t.isLt N_0
    have e1 : (grid0.coords t 1).val = t.val / 1 % 4 := Pipeline.Grid.coords_val t 1 (by decide) rfl
    simp only [isFirst, e1]
    word_cmp
   : ∀ t : Fin grid0.N, isFirst (grid0.coords t) ↔ t.val % 4 = 0)

theorem isLast_iff : ∀ t : Fin cfg0.N, isLast (grid0.coords t) ↔ t.val % 4 = 3 :=
  (fun t => by
    have ht : t.val < 8 := Nat.lt_of_lt_of_eq t.isLt N_0
    have e1 : (grid0.coords t 1).val = t.val / 1 % 4 := Pipeline.Grid.coords_val t 1 (by decide) rfl
    simp only [isLast, k0_cond2, e1]
    word_cmp
   : ∀ t : Fin grid0.N, isLast (grid0.coords t) ↔ t.val % 4 = 3)

/-- Each window's staging memref at a point. -/
abbrev stg0 (t : Fin cfg0.N) : Memref sig .tc .vmem S1x2048x1024 .bf16 := win0_0.stage (cfg0.slots t 0)
abbrev stg1 (t : Fin cfg0.N) : Memref sig .tc .vmem S1x1024x512 .bf16 := win0_1.stage (cfg0.slots t 1)
abbrev stg2 (t : Fin cfg0.N) : Memref sig .tc .vmem S1x1024x1024 .bf16 := win0_2.stage (cfg0.slots t 2)
abbrev stg3 (t : Fin cfg0.N) : Memref sig .tc .vmem S1x512x128 .bf16 := win0_3.stage (cfg0.slots t 3)
abbrev stg4 (t : Fin cfg0.N) : Memref sig .tc .vmem S1x2048x1024 .f32 := win0_4.stage (cfg0.slots t 4)

/-- The scratch buffers as memrefs. -/
abbrev scr0 : Memref sig .tc .vmem S2048x512 .bf16 := Memref.whole cc0_scratch0
abbrev scr1 : Memref sig .tc .vmem S2048x256 .bf16 := Memref.whole cc0_scratch1
abbrev scr2 : Memref sig .tc .vmem S2048x256 .bf16 := Memref.whole cc0_scratch2
abbrev scr3 : Memref sig .tc .vmem S2048x1024 .bf16 := Memref.whole cc0_scratch3
abbrev scr4 : Memref sig .tc .vmem S2048x128 .bf16 := Memref.whole cc0_scratch4
abbrev scr5 : Memref sig .tc .vmem S2048x2048 .bf16 := Memref.whole cc0_scratch5

/-- The launch's invariant with the scratch buffers as memrefs, each at some contents. -/
theorem launchInv_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

end Cert.KernelIdeal.Attn

end
-- ==== Proof.Attn.RunFirst.lean ====
/- The body's run at a first group of a batch entry (first conditional taken, second not): the pieces that its stores leave in the scratch buffers it carries, found by running it. -/
module

public import proofs.«01_k».proof.Proof.Attn.Setup

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a first group of a batch entry (first conditional taken, second not), with the
    carried scratch (the values beside their columns of ones, and the gathered heads) at known contents, the body runs
    and leaves the inputs as they were and the carried scratch with the listed pieces written. -/
def runFirst (c : Dev nD) (i : grid0.Coords) (arg2 : Memref sig .tc .vmem S1x2048x1024 .bf16) (harg2 : arg2.IsWhole) (arg3 : Memref sig .tc .vmem S1x1024x512 .bf16) (harg3 : arg3.IsWhole) (arg4 : Memref sig .tc .vmem S1x1024x1024 .bf16) (harg4 : arg4.IsWhole) (arg5 : Memref sig .tc .vmem S1x512x128 .bf16) (harg5 : arg5.IsWhole) (arg6 : Memref sig .tc .vmem S1x2048x1024 .f32) (harg6 : arg6.IsWhole) (arg7 : Memref sig .tc .vmem S2048x512 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x1024 .bf16) (harg10 : arg10.IsWhole) (arg11 : Memref sig .tc .vmem S2048x128 .bf16) (harg11 : arg11.IsWhole) (arg12 : Memref sig .tc .vmem S2048x2048 .bf16) (harg12 : arg12.IsWhole) (hc0 : isFirst i) (hc1 : ¬isLast i)
    (x0 : Vec F S1x2048x1024 .bf16) (x1 : Vec F S1x1024x512 .bf16) (x2 : Vec F S1x1024x1024 .bf16) (x3 : Vec F S1x512x128 .bf16) (x4 : Vec F S1x2048x1024 .f32) (xs0 : Vec F S2048x512 .bf16) (xs3 : Vec F S2048x1024 .bf16) :
    { L : List (View.Piece (Elt F) S2048x512 .bf16) × List (View.Piece (Elt F) S2048x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0 ∗ (∃ d, owns (c : Thread nD τ) arg8 fullShare d) ∗ (∃ d, owns (c : Thread nD τ) arg9 fullShare d) ∗ owns (c : Thread nD τ) arg10 fullShare xs3 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xs0) L.1) ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread xs3) L.2) ∗ (∃ d, owns (c : Thread nD τ) arg11 fullShare d) ∗ (∃ d, owns (c : Thread nD τ) arg12 fullShare d)) -∗ K ⟨⟩))
          ⊢ wp frame (wpE (defs₀ (F := F)) Variants.none c none) E (cc0__fused_attn_kernel i arg2 harg2 arg3 harg3 arg4 harg4 arg5 harg5 arg6 harg6 arg7 harg7 arg8 harg8 arg9 harg9 arg10 harg10 arg11 harg11 arg12 harg12) K } := by
  refine ⟨(?_, ?_), fun E K => ?run⟩
  case run =>
    simp only [cc0__fused_attn_kernel_eq_skeleton]; unfold cc0__fused_attn_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ds1, %fs1, -, HS1⟩, ⟨%ds2, %fs2, -, HS2⟩, ⟨%fs3, %hfs3, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg7.eq_unread hfs0; obtain rfl := harg10.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro; exact hf4
    isplitl [HS0]; · iexact HS0
    isplitl [HS1]
    · iexists _, _; isplitr; swap; · iexact HS1
      ipureintro; rfl
    isplitl [HS2]
    · iexists _, _; isplitr; swap; · iexact HS2
      ipureintro; rfl
    isplitl [HS3]; · iexact HS3
    isplitl [HS4]
    · iexists _, _; isplitr; swap; · iexact HS4
      ipureintro; rfl
    iexists _, _; isplitr; swap; · iexact HS5
    ipureintro; rfl

end Cert.KernelIdeal.Attn

end
-- ==== Proof.Attn.RunMid.lean ====
/- The body's run at a middle group (neither conditional taken): the pieces that its stores leave in the scratch buffers it carries, found by running it. -/
module

public import proofs.«01_k».proof.Proof.Attn.RunFirst

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle group (neither conditional taken), with the
    carried scratch (the values beside their columns of ones, and the gathered heads) at known contents, the body runs
    and leaves the inputs as they were and the carried scratch with the listed pieces written. -/
def runMid (c : Dev nD) (i : grid0.Coords) (arg2 : Memref sig .tc .vmem S1x2048x1024 .bf16) (harg2 : arg2.IsWhole) (arg3 : Memref sig .tc .vmem S1x1024x512 .bf16) (harg3 : arg3.IsWhole) (arg4 : Memref sig .tc .vmem S1x1024x1024 .bf16) (harg4 : arg4.IsWhole) (arg5 : Memref sig .tc .vmem S1x512x128 .bf16) (harg5 : arg5.IsWhole) (arg6 : Memref sig .tc .vmem S1x2048x1024 .f32) (harg6 : arg6.IsWhole) (arg7 : Memref sig .tc .vmem S2048x512 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x1024 .bf16) (harg10 : arg10.IsWhole) (arg11 : Memref sig .tc .vmem S2048x128 .bf16) (harg11 : arg11.IsWhole) (arg12 : Memref sig .tc .vmem S2048x2048 .bf16) (harg12 : arg12.IsWhole) (hc0 : ¬isFirst i) (hc1 : ¬isLast i)
    (x0 : Vec F S1x2048x1024 .bf16) (x1 : Vec F S1x1024x512 .bf16) (x2 : Vec F S1x1024x1024 .bf16) (x3 : Vec F S1x512x128 .bf16) (x4 : Vec F S1x2048x1024 .f32) (xs0 : Vec F S2048x512 .bf16) (xs3 : Vec F S2048x1024 .bf16) :
    { L : List (View.Piece (Elt F) S2048x512 .bf16) × List (View.Piece (Elt F) S2048x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs0 ∗ (∃ d, owns (c : Thread nD τ) arg8 fullShare d) ∗ (∃ d, owns (c : Thread nD τ) arg9 fullShare d) ∗ owns (c : Thread nD τ) arg10 fullShare xs3 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} arg7.view.writes (Elt F) (harg7.unread xs0) L.1) ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread xs3) L.2) ∗ (∃ d, owns (c : Thread nD τ) arg11 fullShare d) ∗ (∃ d, owns (c : Thread nD τ) arg12 fullShare d)) -∗ K ⟨⟩))
          ⊢ wp frame (wpE (defs₀ (F := F)) Variants.none c none) E (cc0__fused_attn_kernel i arg2 harg2 arg3 harg3 arg4 harg4 arg5 harg5 arg6 harg6 arg7 harg7 arg8 harg8 arg9 harg9 arg10 harg10 arg11 harg11 arg12 harg12) K } := by
  refine ⟨(?_, ?_), fun E K => ?run⟩
  case run =>
    simp only [cc0__fused_attn_kernel_eq_skeleton]; unfold cc0__fused_attn_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ds1, %fs1, -, HS1⟩, ⟨%ds2, %fs2, -, HS2⟩, ⟨%fs3, %hfs3, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg7.eq_unread hfs0; obtain rfl := harg10.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro; exact hf4
    isplitl [HS0]; · iexact HS0
    isplitl [HS1]
    · iexists _, _; isplitr; swap; · iexact HS1
      ipureintro; rfl
    isplitl [HS2]
    · iexists _, _; isplitr; swap; · iexact HS2
      ipureintro; rfl
    isplitl [HS3]; · iexact HS3
    isplitl [HS4]
    · iexists _, _; isplitr; swap; · iexact HS4
      ipureintro; rfl
    iexists _, _; isplitr; swap; · iexact HS5
    ipureintro; rfl

end Cert.KernelIdeal.Attn

end
-- ==== Proof.Attn.RunLast.lean ====
/- The body's run at a last group of a batch entry (second conditional taken): the pieces that its stores leave in the scratch buffers it carries, found by running it. -/
module

public import proofs.«01_k».proof.Proof.Attn.RunMid

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a last group of a batch entry (second conditional taken), with the
    carried scratch (the values beside their columns of ones, and the gathered heads) at known contents, the body runs
    and leaves the inputs as they were and the carried scratch with the listed pieces written, and the output's staging buffer likewise. -/
def runLast (c : Dev nD) (i : grid0.Coords) (arg2 : Memref sig .tc .vmem S1x2048x1024 .bf16) (harg2 : arg2.IsWhole) (arg3 : Memref sig .tc .vmem S1x1024x512 .bf16) (harg3 : arg3.IsWhole) (arg4 : Memref sig .tc .vmem S1x1024x1024 .bf16) (harg4 : arg4.IsWhole) (arg5 : Memref sig .tc .vmem S1x512x128 .bf16) (harg5 : arg5.IsWhole) (arg6 : Memref sig .tc .vmem S1x2048x1024 .f32) (harg6 : arg6.IsWhole) (arg7 : Memref sig .tc .vmem S2048x512 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x1024 .bf16) (harg10 : arg10.IsWhole) (arg11 : Memref sig .tc .vmem S2048x128 .bf16) (harg11 : arg11.IsWhole) (arg12 : Memref sig .tc .vmem S2048x2048 .bf16) (harg12 : arg12.IsWhole) (hc0 : ¬isFirst i) (hc1 : isLast i)
    (x0 : Vec F S1x2048x1024 .bf16) (x1 : Vec F S1x1024x512 .bf16) (x2 : Vec F S1x1024x1024 .bf16) (x3 : Vec F S1x512x128 .bf16) (xs0 : Vec F S2048x512 .bf16) (xs3 : Vec F S2048x1024 .bf16) :
    { L : List (View.Piece (Elt F) S2048x512 .bf16) × List (View.Piece (Elt F) S2048x1024 .bf16) × List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ (∃ d, owns (c : Thread nD τ) arg8 fullShare d) ∗ (∃ d, owns (c : Thread nD τ) arg9 fullShare d) ∗ owns (c : Thread nD τ) arg10 fullShare xs3 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, (arg6.view.loc (c : Thread nD τ) ↦[arg6.view.set]{fullShare} arg6.view.writes (Elt F) f L.2.2)) ∗ (arg7.view.loc (c : Thread nD τ) ↦[arg7.view.set]{fullShare} arg7.view.writes (Elt F) (harg7.unread xs0) L.1) ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread xs3) L.2.1) ∗ (∃ d, owns (c : Thread nD τ) arg11 fullShare d) ∗ (∃ d, owns (c : Thread nD τ) arg12 fullShare d)) -∗ K ⟨⟩))
          ⊢ wp frame (wpE (defs₀ (F := F)) Variants.none c none) E (cc0__fused_attn_kernel i arg2 harg2 arg3 harg3 arg4 harg4 arg5 harg5 arg6 harg6 arg7 harg7 arg8 harg8 arg9 harg9 arg10 harg10 arg11 harg11 arg12 harg12) K } := by
  refine ⟨(?_, ?_, ?_), fun E K => ?run⟩
  case run =>
    simp only [cc0__fused_attn_kernel_eq_skeleton]; unfold cc0__fused_attn_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, ⟨%fs3, %hfs3, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg7.eq_unread hfs0; obtain rfl := harg10.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [HS0]; · iexact HS0
    isplitl [HS1]
    · iexists _, _; isplitr; swap; · iexact HS1
      ipureintro; rfl
    isplitl [HS2]
    · iexists _, _; isplitr; swap; · iexact HS2
      ipureintro; rfl
    isplitl [HS3]; · iexact HS3
    isplitl [HS4]
    · iexists _, _; isplitr; swap; · iexact HS4
      ipureintro; rfl
    iexists _, _; isplitr; swap; · iexact HS5
    ipureintro; rfl

end Cert.KernelIdeal.Attn

end
-- ==== Proof.Attn.Pieces.lean ====
/- What the body's stores leave, in one form for the three kinds of points: every slot's columns of the queries, keys and
   values, the exponentials, the heads' outputs, and the pieces of the gathered heads. -/
module

public import proofs.«01_k».proof.Proof.Attn.RunLast

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F]

/-- A 64-column slice of the projection. -/
theorem slices_cols (k : Fin 8) : S2048x512.Slices ![0, 64 * k.val] S2048x64 := ⟨rfl, fun a => by
  match a with
  | ⟨0, _⟩ => exact Nat.le_refl _
  | ⟨1, _⟩ => exact (by have := k.isLt; omega : 64 * k.val + 64 ≤ 512)⟩

/-- One column of the sums of squares. -/
theorem slices_sum (h : Fin 4) : S2048x128.Slices ![0, h.val] S2048x1 := ⟨rfl, fun a => by
  match a with
  | ⟨0, _⟩ => exact Nat.le_refl _
  | ⟨1, _⟩ => exact (by have := h.isLt; omega : h.val + 1 ≤ 128)⟩

theorem inb_slot (h : Fin 4) : ∀ a, (![0, 64 * h.val] : Fin 2 → ℕ) a + S2048x64.size a ≤ S2048x256.size a := fun a => by
  match a with
  | ⟨0, _⟩ => exact Nat.le_refl _
  | ⟨1, _⟩ => exact (by have := h.isLt; omega : 64 * h.val + 64 ≤ 256)

theorem inb_keys (h : Fin 4) (u : Fin 2) : ∀ a, (![1024 * u.val, 64 * h.val] : Fin 2 → ℕ) a + S1024x64.size a ≤ S2048x256.size a := fun a => by
  match a with
  | ⟨0, _⟩ => exact (by have := u.isLt; omega : 1024 * u.val + 1024 ≤ 2048)
  | ⟨1, _⟩ => exact (by have := h.isLt; omega : 64 * h.val + 64 ≤ 256)

theorem inb_value (k : Fin 8) : ∀ a, (![0, 64 * k.val] : Fin 2 → ℕ) a + S2048x64.size a ≤ S2048x512.size a := fun a => by
  match a with
  | ⟨0, _⟩ => exact Nat.le_refl _
  | ⟨1, _⟩ => exact (by have := k.isLt; omega : 64 * k.val + 64 ≤ 512)

theorem inb_values (h : Fin 4) : ∀ a, (![0, 128 * h.val] : Fin 2 → ℕ) a + S2048x128.size a ≤ S2048x512.size a := fun a => by
  match a with
  | ⟨0, _⟩ => exact Nat.le_refl _
  | ⟨1, _⟩ => exact (by have := h.isLt; omega : 128 * h.val + 128 ≤ 512)

/-! ## Queries, keys, values -/

/-- The slot's columns `64 k … 64 k + 63` of the projection. -/
def colsOf (q8 : FVec F S2048x512 .bf16) (k : Fin 8) : FVec F S2048x64 .bf16 :=
  extractStridedSlice S2048x64 ![0, 64 * k.val] q8 (slices_cols k)

/-- The reciprocal square root of the slot's floored sum of squares. -/
def rnormOf (s9 : FVec F S2048x128 .f32) (h : Fin 4) : FVec F S2048x1 .f32 :=
  rsqrt (maximumf (extractStridedSlice S2048x1 ![0, h.val] s9 (slices_sum h)) (broadcast S2048x1 (Scalar.ofBits .f32 0x179ABE15#32)))

/-- The exponential of the slot's own score. -/
def selfOf (s9 : FVec F S2048x128 .f32) (h : Fin 4) : FVec F S2048x1 .f32 :=
  exp (mulf (extractStridedSlice S2048x1 ![0, h.val] s9 (slices_sum h)) (rnormOf s9 h))

def queryPay (q8 : FVec F S2048x512 .bf16) (h : Fin 4) : FVec F S2048x64 .bf16 :=
  shapeCast S2048x64 (colsOf q8 ⟨2 * h.val, by omega⟩) shapeCasts_S2048x64_S2048x64

def keyPay (q8 : FVec F S2048x512 .bf16) (s9 : FVec F S2048x128 .f32) (h : Fin 4) : FVec F S2048x64 .bf16 :=
  shapeCast S2048x64 (mulf (colsOf q8 ⟨2 * h.val, by omega⟩)
    (broadcastTo S2048x64 (truncf .bf16 (rnormOf s9 h) bitsLt_bf16_f32) broadcasts_S2048x1_S2048x64)) shapeCasts_S2048x64_S2048x64

def valuePay (q8 : FVec F S2048x512 .bf16) (h : Fin 4) : FVec F S2048x64 .bf16 :=
  shapeCast S2048x64 (colsOf q8 ⟨2 * h.val + 1, by omega⟩) shapeCasts_S2048x64_S2048x64

def queryPiece (q8 : FVec F S2048x512 .bf16) (h : Fin 4) : View.Piece (Elt F) S2048x256 .bf16 :=
  ⟨Rect.unit (s := S2048x256) ![0, 64 * h.val] S2048x64.size (inb_slot h), queryPay q8 h⟩

def keyPiece (q8 : FVec F S2048x512 .bf16) (s9 : FVec F S2048x128 .f32) (h : Fin 4) : View.Piece (Elt F) S2048x256 .bf16 :=
  ⟨Rect.unit (s := S2048x256) ![0, 64 * h.val] S2048x64.size (inb_slot h), keyPay q8 s9 h⟩

def valuePiece (q8 : FVec F S2048x512 .bf16) (h : Fin 4) : View.Piece (Elt F) S2048x512 .bf16 :=
  ⟨Rect.unit (s := S2048x512) ![0, 64 * (2 * h.val)] S2048x64.size (inb_value ⟨2 * h.val, by omega⟩), valuePay q8 h⟩

/-- The ones beside the values. -/
def onesPiece (h : Fin 4) : View.Piece (Elt F) S2048x512 .bf16 :=
  ⟨Rect.unit (s := S2048x512) ![0, 64 * (2 * h.val + 1)] S2048x64.size (inb_value ⟨2 * h.val + 1, by omega⟩), k0_pay4⟩

def queryPieces (q8 : FVec F S2048x512 .bf16) : List (View.Piece (Elt F) S2048x256 .bf16) :=
  [queryPiece q8 3, queryPiece q8 2, queryPiece q8 1, queryPiece q8 0]

def keyPieces (q8 : FVec F S2048x512 .bf16) (s9 : FVec F S2048x128 .f32) : List (View.Piece (Elt F) S2048x256 .bf16) :=
  [keyPiece q8 s9 3, keyPiece q8 s9 2, keyPiece q8 s9 1, keyPiece q8 s9 0]

def valuePieces (q8 : FVec F S2048x512 .bf16) : List (View.Piece (Elt F) S2048x512 .bf16) :=
  [valuePiece q8 3, valuePiece q8 2, valuePiece q8 1, valuePiece q8 0]

def onesPieces : List (View.Piece (Elt F) S2048x512 .bf16) :=
  [onesPiece 3, onesPiece 2, onesPiece 1, onesPiece 0]

/-! ## Scores and heads -/

section Heads

variable (arg8 arg9 : Memref sig .tc .vmem S2048x256 .bf16) (arg11 : Memref sig .tc .vmem S2048x128 .bf16)
  (arg12 : Memref sig .tc .vmem S2048x2048 .bf16)
variable (q8 : FVec F S2048x512 .bf16) (s9 : FVec F S2048x128 .f32) (va vb : Vec F S2048x512 .bf16)

def queryRead (h : Fin 4) : Vec F S2048x64 .bf16 :=
  arg8.view.readCov (queryPieces q8) (Rect.unit (s := S2048x256) ![0, 64 * h.val] S2048x64.size (inb_slot h)).toLoadRect

def keyRead (h : Fin 4) (u : Fin 2) : Vec F S1024x64 .bf16 :=
  arg9.view.readCov (keyPieces q8 s9) (Rect.unit (s := S2048x256) ![1024 * u.val, 64 * h.val] S1024x64.size (inb_keys h u)).toLoadRect

/-- The two halves of the slot's exponentials, later store first. -/
def expPieces (h : Fin 4) (L : List (View.Piece (Elt F) S2048x2048 .bf16)) : List (View.Piece (Elt F) S2048x2048 .bf16) :=
  ⟨Rect.unit ![0, 1024] S2048x1024.size inb_S2048x2048_S2048x1024_0_1024, k0_pay31 (queryRead arg8 q8 h) (keyRead arg9 q8 s9 h 1)⟩
    :: ⟨Rect.unit ![0, 0] S2048x1024.size inb_S2048x2048_S2048x1024_0_0, k0_pay31 (queryRead arg8 q8 h) (keyRead arg9 q8 s9 h 0)⟩
    :: L

def expRead (h : Fin 4) (L : List (View.Piece (Elt F) S2048x2048 .bf16)) : Vec F S2048x2048 .bf16 :=
  arg12.view.readCov (expPieces arg8 arg9 q8 s9 h L) (Rect.unit (s := S2048x2048) ![0, 0] S2048x2048.size inb_S2048x2048_S2048x2048_0_0).toLoadRect

/-- The slot's head output, over the exponentials written before (`L`). -/
def headPay (h : Fin 4) (L : List (View.Piece (Elt F) S2048x2048 .bf16)) : FVec F S2048x64 .bf16 :=
  k0_pay33 (View.ld va (Rect.unit (s := S2048x512) ![0, 128 * h.val] S2048x128.size (inb_values h))) (selfOf s9 h)
    (expRead arg8 arg9 arg12 q8 s9 h L)
    (View.ld vb (Rect.unit (s := S2048x512) ![0, 64 * (2 * h.val)] S2048x64.size (inb_value ⟨2 * h.val, by omega⟩)))

def exps1 := expPieces arg8 arg9 q8 s9 0 []
def exps2 := expPieces arg8 arg9 q8 s9 1 (exps1 arg8 arg9 q8 s9)
def exps3 := expPieces arg8 arg9 q8 s9 2 (exps2 arg8 arg9 q8 s9)

/-- Two heads side by side, over earlier stores. -/
def pairPieces (h h' : Fin 4) (L L' : List (View.Piece (Elt F) S2048x2048 .bf16)) (P : List (View.Piece (Elt F) S2048x128 .bf16)) :
    List (View.Piece (Elt F) S2048x128 .bf16) :=
  ⟨Rect.unit ![0, 64] S2048x64.size inb_S2048x128_S2048x64_0_64, headPay arg8 arg9 arg12 q8 s9 va vb h' L'⟩
    :: ⟨Rect.unit ![0, 0] S2048x64.size inb_S2048x128_S2048x64_0_0, headPay arg8 arg9 arg12 q8 s9 va vb h L⟩ :: P

def pairs1 := pairPieces arg8 arg9 arg12 q8 s9 va vb 0 1 [] (exps1 arg8 arg9 q8 s9) []
def pairs2 := pairPieces arg8 arg9 arg12 q8 s9 va vb 2 3 (exps2 arg8 arg9 q8 s9) (exps3 arg8 arg9 q8 s9)
  (pairs1 arg8 arg9 arg12 q8 s9 va vb)

def pairPay (P : List (View.Piece (Elt F) S2048x128 .bf16)) : FVec F S2048x128 .bf16 :=
  shapeCast S2048x128 (arg11.view.readCov P (Rect.unit (s := S2048x128) ![0, 0] S2048x128.size inb_S2048x128_S2048x128_0_0).toLoadRect)
    shapeCasts_S2048x128_S2048x128

/-- The two stores into the gathered heads, later first. -/
def headPieces (i : grid0.Coords) : List (View.Piece (Elt F) S2048x1024 .bf16) :=
  [⟨Rect.unit (s := S2048x1024) (k0_off1 i 3#32) S2048x128.size (k0_off1_inb i 1), pairPay arg11 (pairs2 arg8 arg9 arg12 q8 s9 va vb)⟩,
   ⟨Rect.unit (s := S2048x1024) (k0_off1 i 1#32) S2048x128.size (k0_off1_inb i 0), pairPay arg11 (pairs1 arg8 arg9 arg12 q8 s9 va vb)⟩]

end Heads

end Cert.KernelIdeal.Attn

end
-- ==== Proof.Attn.Found.lean ====
/- The pieces that each run finds, in the common form of Pieces.lean. -/
module

public import proofs.«01_k».proof.Proof.Attn.Pieces
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F]

section

variable (arg2 : Memref sig .tc .vmem S1x2048x1024 .bf16) (harg2 : arg2.IsWhole) (arg3 : Memref sig .tc .vmem S1x1024x512 .bf16) (harg3 : arg3.IsWhole)
  (arg5 : Memref sig .tc .vmem S1x512x128 .bf16) (harg5 : arg5.IsWhole) (arg7 : Memref sig .tc .vmem S2048x512 .bf16) (harg7 : arg7.IsWhole)
  (x0 : Vec F S1x2048x1024 .bf16) (x1 : Vec F S1x1024x512 .bf16) (x3 : Vec F S1x512x128 .bf16) (xs0 : Vec F S2048x512 .bf16)

/-- The three whole loads. -/
def load0 : Vec F S1x2048x1024 .bf16 :=
  View.readAt (Elt F) arg2.view (Rect.unit (s := S1x2048x1024) ![0, 0, 0] S1x2048x1024.size inb_S1x2048x1024_S1x2048x1024_0_0_0).toLoadRect (harg2.unread x0)
def load1 : Vec F S1x1024x512 .bf16 :=
  View.readAt (Elt F) arg3.view (Rect.unit (s := S1x1024x512) ![0, 0, 0] S1x1024x512.size inb_S1x1024x512_S1x1024x512_0_0_0).toLoadRect (harg3.unread x1)
def load3 : Vec F S1x512x128 .bf16 :=
  View.readAt (Elt F) arg5.view (Rect.unit (s := S1x512x128) ![0, 0, 0] S1x512x128.size inb_S1x512x128_S1x512x128_0_0_0).toLoadRect (harg5.unread x3)

theorem load0_eq : load0 arg2 harg2 x0 = x0 := by
  unfold load0; rw [View.readAt_full, harg2.read_unread]
theorem load1_eq : load1 arg3 harg3 x1 = x1 := by
  unfold load1; rw [View.readAt_full, harg3.read_unread]
theorem load3_eq : load3 arg5 harg5 x3 = x3 := by
  unfold load3; rw [View.readAt_full, harg5.read_unread]

/-- The projection and the sums of squares, of the loads. -/
def projOf : FVec F S2048x512 .bf16 := k0_pay8 (load0 arg2 harg2 x0) (load1 arg3 harg3 x1)
def sumsOf : FVec F S2048x128 .f32 := k0_pay9 (load0 arg2 harg2 x0) (load1 arg3 harg3 x1) (load3 arg5 harg5 x3)

/-- The values' scratch after the stores `L`, over what it held; and over nothing. -/
def afterStores (L : List (View.Piece (Elt F) S2048x512 .bf16)) : Vec F S2048x512 .bf16 :=
  arg7.view.read (Elt F) (arg7.view.writes (Elt F) (harg7.unread xs0) L)
def ofStores (L : List (View.Piece (Elt F) S2048x512 .bf16)) : Vec F S2048x512 .bf16 :=
  arg7.view.read (Elt F) (arg7.view.writes (Elt F) arg7.view.junk L)

end

section Runs

variable (c : Dev nD) (i : grid0.Coords)
  (arg2 : Memref sig .tc .vmem S1x2048x1024 .bf16) (harg2 : arg2.IsWhole)
  (arg3 : Memref sig .tc .vmem S1x1024x512 .bf16) (harg3 : arg3.IsWhole)
  (arg4 : Memref sig .tc .vmem S1x1024x1024 .bf16) (harg4 : arg4.IsWhole)
  (arg5 : Memref sig .tc .vmem S1x512x128 .bf16) (harg5 : arg5.IsWhole)
  (arg6 : Memref sig .tc .vmem S1x2048x1024 .f32) (harg6 : arg6.IsWhole)
  (arg7 : Memref sig .tc .vmem S2048x512 .bf16) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S2048x1024 .bf16) (harg10 : arg10.IsWhole)
  (arg11 : Memref sig .tc .vmem S2048x128 .bf16) (harg11 : arg11.IsWhole)
  (arg12 : Memref sig .tc .vmem S2048x2048 .bf16) (harg12 : arg12.IsWhole)
variable (x0 : Vec F S1x2048x1024 .bf16) (x1 : Vec F S1x1024x512 .bf16) (x2 : Vec F S1x1024x1024 .bf16) (x3 : Vec F S1x512x128 .bf16)
  (x4 : Vec F S1x2048x1024 .f32) (xs0 : Vec F S2048x512 .bf16) (xs3 : Vec F S2048x1024 .bf16)

theorem runFirst_values (hc0 : isFirst i) (hc1 : ¬isLast i) :
    (runFirst c i arg2 harg2 arg3 harg3 arg4 harg4 arg5 harg5 arg6 harg6 arg7 harg7 arg8 harg8 arg9 harg9 arg10 harg10 arg11 harg11 arg12 harg12 hc0 hc1 x0 x1 x2 x3 x4 xs0 xs3).1.1
    = (valuePieces (projOf arg2 harg2 arg3 harg3 x0 x1) ++ onesPieces) := rfl

theorem runFirst_heads (hc0 : isFirst i) (hc1 : ¬isLast i) :
    (runFirst c i arg2 harg2 arg3 harg3 arg4 harg4 arg5 harg5 arg6 harg6 arg7 harg7 arg8 harg8 arg9 harg9 arg10 harg10 arg11 harg11 arg12 harg12 hc0 hc1 x0 x1 x2 x3 x4 xs0 xs3).1.2
    = headPieces arg8 arg9 arg11 arg12 (projOf arg2 harg2 arg3 harg3 x0 x1) (sumsOf arg2 harg2 arg3 harg3 arg5 harg5 x0 x1 x3)
      (ofStores arg7 (valuePieces (projOf arg2 harg2 arg3 harg3 x0 x1) ++ onesPieces)) (ofStores arg7 (valuePieces (projOf arg2 harg2 arg3 harg3 x0 x1) ++ onesPieces)) i := rfl

theorem runMid_values (hc0 : ¬isFirst i) (hc1 : ¬isLast i) :
    (runMid c i arg2 harg2 arg3 harg3 arg4 harg4 arg5 harg5 arg6 harg6 arg7 harg7 arg8 harg8 arg9 harg9 arg10 harg10 arg11 harg11 arg12 harg12 hc0 hc1 x0 x1 x2 x3 x4 xs0 xs3).1.1
    = (valuePieces (projOf arg2 harg2 arg3 harg3 x0 x1)) := rfl

theorem runMid_heads (hc0 : ¬isFirst i) (hc1 : ¬isLast i) :
    (runMid c i arg2 harg2 arg3 harg3 arg4 harg4 arg5 harg5 arg6 harg6 arg7 harg7 arg8 harg8 arg9 harg9 arg10 harg10 arg11 harg11 arg12 harg12 hc0 hc1 x0 x1 x2 x3 x4 xs0 xs3).1.2
    = headPieces arg8 arg9 arg11 arg12 (projOf arg2 harg2 arg3 harg3 x0 x1) (sumsOf arg2 harg2 arg3 harg3 arg5 harg5 x0 x1 x3)
      (afterStores arg7 harg7 xs0 (valuePieces (projOf arg2 harg2 arg3 harg3 x0 x1))) (ofStores arg7 (valuePieces (projOf arg2 harg2 arg3 harg3 x0 x1))) i := rfl

theorem runLast_values (hc0 : ¬isFirst i) (hc1 : isLast i) :
    (runLast c i arg2 harg2 arg3 harg3 arg4 harg4 arg5 harg5 arg6 harg6 arg7 harg7 arg8 harg8 arg9 harg9 arg10 harg10 arg11 harg11 arg12 harg12 hc0 hc1 x0 x1 x2 x3 xs0 xs3).1.1
    = (valuePieces (projOf arg2 harg2 arg3 harg3 x0 x1)) := rfl

theorem runLast_heads (hc0 : ¬isFirst i) (hc1 : isLast i) :
    (runLast c i arg2 harg2 arg3 harg3 arg4 harg4 arg5 harg5 arg6 harg6 arg7 harg7 arg8 harg8 arg9 harg9 arg10 harg10 arg11 harg11 arg12 harg12 hc0 hc1 x0 x1 x2 x3 xs0 xs3).1.2.1
    = headPieces arg8 arg9 arg11 arg12 (projOf arg2 harg2 arg3 harg3 x0 x1) (sumsOf arg2 harg2 arg3 harg3 arg5 harg5 x0 x1 x3)
      (afterStores arg7 harg7 xs0 (valuePieces (projOf arg2 harg2 arg3 harg3 x0 x1))) (ofStores arg7 (valuePieces (projOf arg2 harg2 arg3 harg3 x0 x1))) i := rfl

theorem runLast_out (hc0 : ¬isFirst i) (hc1 : isLast i) :
    (runLast c i arg2 harg2 arg3 harg3 arg4 harg4 arg5 harg5 arg6 harg6 arg7 harg7 arg8 harg8 arg9 harg9 arg10 harg10 arg11 harg11 arg12 harg12 hc0 hc1 x0 x1 x2 x3 xs0 xs3).1.2.2
    = [⟨Rect.unit (s := S1x2048x1024) ![0, 0, 0] S1x2048x1024.size inb_S1x2048x1024_S1x2048x1024_0_0_0,
        k0_pay3
          (View.readAt (Elt F) arg10.view (Rect.unit (s := S2048x1024) ![0, 0] S2048x1024.size inb_S2048x1024_S2048x1024_0_0).toLoadRect
            (arg10.view.writes (Elt F) (harg10.unread xs3) (runLast c i arg2 harg2 arg3 harg3 arg4 harg4 arg5 harg5 arg6 harg6 arg7 harg7 arg8 harg8 arg9 harg9 arg10 harg10 arg11 harg11 arg12 harg12 hc0 hc1 x0 x1 x2 x3 xs0 xs3).1.2.1))
          (View.readAt (Elt F) arg4.view (Rect.unit (s := S1x1024x1024) ![0, 0, 0] S1x1024x1024.size inb_S1x1024x1024_S1x1024x1024_0_0_0).toLoadRect
            (harg4.unread x2))⟩] := rfl

end Runs

end Cert.KernelIdeal.Attn

end
-- ==== Proof.Attn.Vals.lean ====
/- The stores' values over the extended reals: what one call of the body leaves in the values' scratch, in the gathered
   heads and in the output block, entry by entry. -/
module

public import proofs.«01_k».proof.Proof.Attn.Found
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe

/-! ## Reading a list of pieces -/

section Read

variable {s : Shape} {e : EltTy} {Val : EltTy → Type} [∀ e, Nonempty (Val e)]

/-- If some piece covers an index and every piece covering it holds `v` there, the stores leave `v` there. -/
theorem canon_eq_of_pieces (y : s.Idx) (v : Val e) :
    ∀ L : List (View.Piece Val s e), (∀ p ∈ L, ∀ x, p.1.emb x = y → p.2 x = v) → (∃ p ∈ L, y ∈ p.1.set) → View.canon L y = v
  | [], _, h => by obtain ⟨_, hm, _⟩ := h; exact absurd hm List.not_mem_nil
  | p :: L, hv, hex => by
    by_cases hy : y ∈ p.1.set
    · obtain ⟨x, hx⟩ : ∃ x, p.1.emb x = y := p.1.exists_idx_of_mem hy
      have h1 := hv p List.mem_cons_self x hx
      obtain ⟨r, w⟩ := p
      subst hx
      rw [View.canon_cons_emb]; exact h1
    · rw [View.canon_cons_of_not_mem p L hy]
      refine canon_eq_of_pieces y v L (fun q hq => hv q (List.mem_cons_of_mem _ hq)) ?_
      obtain ⟨q, hq, hyq⟩ := hex
      rcases List.mem_cons.mp hq with rfl | hq
      · exact absurd hyq hy
      · exact ⟨q, hq, hyq⟩

/-- The same of what any view reads after the stores. -/
theorem read_eq_of_pieces {sig : RefSig} {κ : Kind} {sp : Space} (w : View sig κ sp s e) (f : w.ty.Contents Val)
    (y : s.Idx) (v : Val e) (L : List (View.Piece Val s e)) (hv : ∀ p ∈ L, ∀ x, p.1.emb x = y → p.2 x = v)
    (hex : ∃ p ∈ L, y ∈ p.1.set) : w.read Val (w.writes Val f L) y = v := by
  rw [View.read_writes_apply_eq_canon w f y L hex]; exact canon_eq_of_pieces y v L hv hex

/-- Where no piece reaches, a view reads what it read. -/
theorem read_eq_of_no_piece {sig : RefSig} {κ : Kind} {sp : Space} (w : View sig κ sp s e) (f : w.ty.Contents Val)
    (y : s.Idx) (L : List (View.Piece Val s e)) (h : ∀ p ∈ L, ∀ x, p.1.emb x ≠ y) :
    w.read Val (w.writes Val f L) y = w.read Val f y :=
  View.read_writes_apply_of_forall_not_mem w f y L fun p hp hy => by
    obtain ⟨x, hx⟩ := p.1.exists_idx_of_mem hy
    exact h p hp x hx

/-- Membership in a piece's rectangle, from the index that lands there. -/
theorem mem_of_emb {r : Rect s} {y : s.Idx} (x : r.shape.Idx) (h : r.emb x = y) : y ∈ r.set := by
  subst h; exact r.toLoadRect.idx_mem x

theorem idx_of_mem {r : Rect s} {y : s.Idx} (h : y ∈ r.set) : ∃ x, r.emb x = y := r.toLoadRect.exists_idx_of_mem h

end Read

/-- A rank-2 box at row 0: where an index lands. -/
theorem emb_row0 {n c w : ℕ} {o : ℕ} (inb : ∀ a, (![0, o] : Fin 2 → ℕ) a + (⟨2, ![n, w]⟩ : Shape).size a ≤ (⟨2, ![n, c]⟩ : Shape).size a)
    (i : Fin n) (j : Fin w) (k : Fin c) (h : k.val = o + j.val) :
    (Rect.unit (s := ⟨2, ![n, c]⟩) ![0, o] (⟨2, ![n, w]⟩ : Shape).size inb).emb (ix2 i j : (⟨2, ![n, w]⟩ : Shape).Idx) = (ix2 i k : (⟨2, ![n, c]⟩ : Shape).Idx) := by
  funext a
  apply Fin.ext
  match a with
  | ⟨0, _⟩ => show 0 + 1 * i.val = i.val; omega
  | ⟨1, _⟩ => show o + 1 * j.val = k.val; omega

/-- And conversely: the index that lands at a given place. -/
theorem of_emb_row0 {n c w : ℕ} {o : ℕ} (inb : ∀ a, (![0, o] : Fin 2 → ℕ) a + (⟨2, ![n, w]⟩ : Shape).size a ≤ (⟨2, ![n, c]⟩ : Shape).size a)
    (x : (⟨2, ![n, w]⟩ : Shape).Idx) (i : Fin n) (k : Fin c)
    (h : (Rect.unit (s := ⟨2, ![n, c]⟩) ![0, o] (⟨2, ![n, w]⟩ : Shape).size inb).emb x = (ix2 i k : (⟨2, ![n, c]⟩ : Shape).Idx)) :
    ∃ j : Fin w, x = ix2 i j ∧ k.val = o + j.val := by
  have h0 : 0 + 1 * (x 0).val = i.val := congrArg (fun z => (z 0).val) h
  have h1 : o + 1 * (x 1).val = k.val := congrArg (fun z => (z 1).val) h
  refine ⟨x 1, ?_, by omega⟩
  funext a
  apply Fin.ext
  match a with
  | ⟨0, _⟩ => show (x 0).val = i.val; omega
  | ⟨1, _⟩ => rfl

/-! ## The formulas -/

/-- The kernel's floor under a sum of squares. -/
abbrev floorWord : EReal := Ideal.ofBits FTy.f32 396017173#32

/-- One head's output at row `i`, column `j`: of the scaled queries `q`, the values `v` and the sums of squares `ss`. -/
def headVal (q v : Fin 2048 → Fin 64 → EReal) (ss : Fin 2048 → EReal) (i : Fin 2048) (j : Fin 64) : EReal :=
  (∑ t, Ideal.exp (∑ x, q i x * (q t x * Ideal.rsqrt (max (ss t) floorWord))) * v t j
      - v i j * Ideal.exp (ss i * Ideal.rsqrt (max (ss i) floorWord)))
    * Ideal.div 1 (∑ t, Ideal.exp (∑ x, q i x * (q t x * Ideal.rsqrt (max (ss t) floorWord))) * 1
      - Ideal.exp (ss i * Ideal.rsqrt (max (ss i) floorWord)))

/-- Slot `h`'s columns of the projection: the scaled queries, then the values. -/
def qCol (h : Fin 4) (x : Fin 64) : Fin 512 := ⟨64 * (2 * h.val) + x.val, by omega⟩
def vCol (h : Fin 4) (x : Fin 64) : Fin 512 := ⟨64 * (2 * h.val + 1) + x.val, by omega⟩

/-- Slot `h`'s head of one call. -/
def slotVal (q8 : FVec Ideal S2048x512 .bf16) (s9 : FVec Ideal S2048x128 .f32) (h : Fin 4) : Fin 2048 → Fin 64 → EReal :=
  headVal (fun t x => q8 (ix2 t (qCol h x))) (fun t x => q8 (ix2 t (vCol h x))) (fun t => s9 (ix2 t ⟨h.val, by omega⟩))

/-! ## The values' scratch -/

theorem valuePay_apply (q8 : FVec Ideal S2048x512 .bf16) (h : Fin 4) (t : Fin 2048) (x : Fin 64) :
    valuePay q8 h (ix2 t x) = q8 (ix2 t (vCol h x)) := by
  pointwise [valuePay, colsOf]
  rfl

theorem ones_apply (t : Fin 2048) (x : Fin 64) : (k0_pay4 : FVec Ideal S2048x64 .bf16) (ix2 t x) = 1 := by
  pointwise [k0_pay4]

theorem mem_valuePieces (q8 : FVec Ideal S2048x512 .bf16) (p : View.Piece (Elt Ideal) S2048x512 .bf16) :
    p ∈ valuePieces q8 ↔ ∃ h, p = valuePiece q8 h := by
  simp only [valuePieces, List.mem_cons, List.not_mem_nil, or_false, Fin.exists_fin_succ, Fin.exists_fin_zero]
  tauto

theorem mem_queryPieces (q8 : FVec Ideal S2048x512 .bf16) (p : View.Piece (Elt Ideal) S2048x256 .bf16) :
    p ∈ queryPieces q8 ↔ ∃ h, p = queryPiece q8 h := by
  simp only [queryPieces, List.mem_cons, List.not_mem_nil, or_false, Fin.exists_fin_succ, Fin.exists_fin_zero]
  tauto

theorem mem_keyPieces (q8 : FVec Ideal S2048x512 .bf16) (s9 : FVec Ideal S2048x128 .f32) (p : View.Piece (Elt Ideal) S2048x256 .bf16) :
    p ∈ keyPieces q8 s9 ↔ ∃ h, p = keyPiece q8 s9 h := by
  simp only [keyPieces, List.mem_cons, List.not_mem_nil, or_false, Fin.exists_fin_succ, Fin.exists_fin_zero]
  tauto

theorem mem_onesPieces (p : View.Piece (Elt Ideal) S2048x512 .bf16) :
    p ∈ (onesPieces : List (View.Piece (Elt Ideal) S2048x512 .bf16)) ↔ ∃ h, p = onesPiece h := by
  simp only [onesPieces, List.mem_cons, List.not_mem_nil, or_false, Fin.exists_fin_succ, Fin.exists_fin_zero]
  tauto

section Values

variable {sig' : RefSig} {κ : Kind} {sp : Space} (w : View sig' κ sp S2048x512 .bf16) (f : w.ty.Contents (Elt Ideal))
  (q8 : FVec Ideal S2048x512 .bf16) (L : List (View.Piece (Elt Ideal) S2048x512 .bf16))

/-- After stores that hold all the values' pieces and perhaps some ones, the values stand in their columns. -/
theorem values_apply (hL : ∀ p ∈ L, (∃ h, p = valuePiece q8 h) ∨ ∃ h, p = onesPiece h) (hm : ∀ h, valuePiece q8 h ∈ L)
    (h : Fin 4) (t : Fin 2048) (x : Fin 64) :
    w.read (Elt Ideal) (w.writes (Elt Ideal) f L) (ix2 t (qCol h x)) = q8 (ix2 t (vCol h x)) := by
  refine read_eq_of_pieces w f _ _ L (fun p hp y hy => ?_)
    ⟨_, hm h, mem_of_emb (ix2 t x) (emb_row0 (inb_value ⟨2 * h.val, by omega⟩) t x (qCol h x) rfl)⟩
  rcases hL p hp with ⟨h', rfl⟩ | ⟨h', rfl⟩
  · obtain ⟨j, rfl, hj⟩ := of_emb_row0 (inb_value ⟨2 * h'.val, by omega⟩) y t (qCol h x) hy
    have h1 : 64 * (2 * h.val) + x.val = 64 * (2 * h'.val) + j.val := hj
    obtain rfl : h' = h := Fin.ext (by omega)
    obtain rfl : j = x := Fin.ext (by omega)
    exact valuePay_apply q8 h' t j
  · obtain ⟨j, rfl, hj⟩ := of_emb_row0 (inb_value ⟨2 * h'.val + 1, by omega⟩) y t (qCol h x) hy
    have h1 : 64 * (2 * h.val) + x.val = 64 * (2 * h'.val + 1) + j.val := hj
    omega

/-- The ones stay, or are written. -/
theorem ones_kept (hL : ∀ p ∈ L, (∃ h, p = valuePiece q8 h) ∨ ∃ h, p = onesPiece h)
    (hm : (∀ h, onesPiece h ∈ L) ∨ ((∀ p ∈ L, ∃ h, p = valuePiece q8 h) ∧ ∀ h t x, w.read (Elt Ideal) f (ix2 t (vCol h x)) = 1))
    (h : Fin 4) (t : Fin 2048) (x : Fin 64) :
    w.read (Elt Ideal) (w.writes (Elt Ideal) f L) (ix2 t (vCol h x)) = 1 := by
  have hno : ∀ h' y, (valuePiece q8 h').1.emb y ≠ ix2 t (vCol h x) := fun h' y hy => by
    obtain ⟨j, rfl, hj⟩ := of_emb_row0 (inb_value ⟨2 * h'.val, by omega⟩) y t (vCol h x) hy
    have h1 : 64 * (2 * h.val + 1) + x.val = 64 * (2 * h'.val) + j.val := hj
    omega
  rcases hm with hm | ⟨hv, hf⟩
  · refine read_eq_of_pieces w f _ _ L (fun p hp y hy => ?_)
      ⟨_, hm h, mem_of_emb (ix2 t x) (emb_row0 (inb_value ⟨2 * h.val + 1, by omega⟩) t x (vCol h x) rfl)⟩
    rcases hL p hp with ⟨h', rfl⟩ | ⟨h', rfl⟩
    · exact absurd hy (hno h' y)
    · obtain ⟨j, rfl, hj⟩ := of_emb_row0 (inb_value ⟨2 * h'.val + 1, by omega⟩) y t (vCol h x) hy
      exact ones_apply t j
  · rw [read_eq_of_no_piece w f _ L fun p hp y hy => ?_]
    · exact hf h t x
    · obtain ⟨h', rfl⟩ := hv p hp
      exact hno h' y hy

end Values

/-! ## The heads -/

theorem queryPay_apply (q8 : FVec Ideal S2048x512 .bf16) (h : Fin 4) (t : Fin 2048) (x : Fin 64) :
    queryPay q8 h (ix2 t x) = q8 (ix2 t (qCol h x)) := by
  pointwise [queryPay, colsOf]
  rfl

theorem keyPay_apply (q8 : FVec Ideal S2048x512 .bf16) (s9 : FVec Ideal S2048x128 .f32) (h : Fin 4) (t : Fin 2048) (x : Fin 64) :
    keyPay q8 s9 h (ix2 t x) = q8 (ix2 t (qCol h x)) * Ideal.rsqrt (max (s9 (ix2 t ⟨h.val, by omega⟩)) floorWord) := by
  pointwise [keyPay, colsOf, rnormOf]
  rfl

theorem selfOf_apply (s9 : FVec Ideal S2048x128 .f32) (h : Fin 4) (t : Fin 2048) :
    selfOf s9 h (ix2 t 0) = Ideal.exp (s9 (ix2 t ⟨h.val, by omega⟩) * Ideal.rsqrt (max (s9 (ix2 t ⟨h.val, by omega⟩)) floorWord)) := by
  pointwise [selfOf, rnormOf]

theorem score_apply (q : Vec Ideal S2048x64 .bf16) (k : Vec Ideal S1024x64 .bf16) (i : Fin 2048) (j : Fin 1024) :
    k0_pay31 q k (ix2 i j) = Ideal.exp (∑ x, q (ix2 i x) * k (ix2 j x)) := by
  pointwise [k0_pay31]

theorem quotient_apply (a : Vec Ideal S2048x128 .bf16) (b : FVec Ideal S2048x1 .f32) (e : Vec Ideal S2048x2048 .bf16)
    (v : Vec Ideal S2048x64 .bf16) (i : Fin 2048) (j : Fin 64) :
    k0_pay33 a b e v (ix2 i j) = (∑ x, e (ix2 i x) * a (ix2 x ⟨j.val, by omega⟩) - v (ix2 i j) * b (ix2 i 0))
      * Ideal.div 1 (∑ x, e (ix2 i x) * a (ix2 x 64) - b (ix2 i 0)) := by
  pointwise [k0_pay33]

section Heads

variable (arg8 arg9 : Memref sig .tc .vmem S2048x256 .bf16) (arg11 : Memref sig .tc .vmem S2048x128 .bf16)
  (arg12 : Memref sig .tc .vmem S2048x2048 .bf16)
variable (q8 : FVec Ideal S2048x512 .bf16) (s9 : FVec Ideal S2048x128 .f32) (va vb : Vec Ideal S2048x512 .bf16)

/-- Slot `h`'s columns of the queries' and keys' scratch. -/
def sCol (h : Fin 4) (x : Fin 64) : Fin 256 := ⟨64 * h.val + x.val, by omega⟩

theorem queryRead_apply (h : Fin 4) (t : Fin 2048) (x : Fin 64) :
    queryRead arg8 q8 h (ix2 t x) = q8 (ix2 t (qCol h x)) := by
  unfold queryRead
  rw [View.readCov_eq_canon']
  show View.canon _ ((Rect.unit (s := S2048x256) ![0, 64 * h.val] S2048x64.size (inb_slot h)).emb (ix2 t x)) = _
  rw [emb_row0 (inb_slot h) t x (sCol h x) rfl]
  refine canon_eq_of_pieces _ _ _ (fun p hp y hy => ?_)
    ⟨_, (mem_queryPieces q8 _).mpr ⟨h, rfl⟩, mem_of_emb (ix2 t x) (emb_row0 (inb_slot h) t x (sCol h x) rfl)⟩
  obtain ⟨h', rfl⟩ := (mem_queryPieces q8 p).mp hp
  obtain ⟨j, rfl, hj⟩ := of_emb_row0 (inb_slot h') y t (sCol h x) hy
  have h1 : 64 * h.val + x.val = 64 * h'.val + j.val := hj
  obtain rfl : h' = h := Fin.ext (by omega)
  obtain rfl : j = x := Fin.ext (by omega)
  exact queryPay_apply q8 h' t j

theorem keyRead_apply (h : Fin 4) (u : Fin 2) (t : Fin 1024) (t' : Fin 2048) (ht : t'.val = 1024 * u.val + t.val) (x : Fin 64) :
    keyRead arg9 q8 s9 h u (ix2 t x) = q8 (ix2 t' (qCol h x)) * Ideal.rsqrt (max (s9 (ix2 t' ⟨h.val, by omega⟩)) floorWord) := by
  unfold keyRead
  rw [View.readCov_eq_canon']
  have he : (Rect.unit (s := S2048x256) ![1024 * u.val, 64 * h.val] S1024x64.size (inb_keys h u)).toLoadRect.idx (ix2 t x)
      = (ix2 t' (sCol h x) : S2048x256.Idx) := by
    funext a
    apply Fin.ext
    match a with
    | ⟨0, _⟩ => show 1024 * u.val + 1 * t.val = t'.val; omega
    | ⟨1, _⟩ => show 64 * h.val + 1 * x.val = 64 * h.val + x.val; omega
  show View.canon _ _ = _
  rw [he]
  refine canon_eq_of_pieces _ _ _ (fun p hp y hy => ?_)
    ⟨_, (mem_keyPieces q8 s9 _).mpr ⟨h, rfl⟩, mem_of_emb (ix2 t' x) (emb_row0 (inb_slot h) t' x (sCol h x) rfl)⟩
  obtain ⟨h', rfl⟩ := (mem_keyPieces q8 s9 p).mp hp
  obtain ⟨j, rfl, hj⟩ := of_emb_row0 (inb_slot h') y t' (sCol h x) hy
  have h1 : 64 * h.val + x.val = 64 * h'.val + j.val := hj
  obtain rfl : h' = h := Fin.ext (by omega)
  obtain rfl : j = x := Fin.ext (by omega)
  exact keyPay_apply q8 s9 h' t' j

theorem expRead_apply (h : Fin 4) (L : List (View.Piece (Elt Ideal) S2048x2048 .bf16)) (i t : Fin 2048) :
    expRead arg8 arg9 arg12 q8 s9 h L (ix2 i t)
      = Ideal.exp (∑ x, q8 (ix2 i (qCol h x)) * (q8 (ix2 t (qCol h x)) * Ideal.rsqrt (max (s9 (ix2 t ⟨h.val, by omega⟩)) floorWord))) := by
  unfold expRead
  rw [View.readCov_eq_canon']
  show View.canon _ ((Rect.unit (s := S2048x2048) ![0, 0] S2048x2048.size inb_S2048x2048_S2048x2048_0_0).emb (ix2 i t)) = _
  rw [emb_row0 inb_S2048x2048_S2048x2048_0_0 i t t (by omega)]
  unfold expPieces
  by_cases hlt : t.val < 1024
  · rw [View.canon_cons_of_not_mem]
    · have he := emb_row0 inb_S2048x2048_S2048x1024_0_0 i (⟨t.val, hlt⟩ : Fin 1024) t (by show t.val = 0 + t.val; omega)
      rw [← he]
      refine (View.canon_cons_emb _ _ _ _).trans ?_
      rw [score_apply]
      simp only [queryRead_apply]
      refine congrArg Ideal.exp (Finset.sum_congr rfl fun x _ => congrArg _ ?_)
      exact keyRead_apply arg9 q8 s9 h 0 _ t (by show t.val = 1024 * 0 + t.val; omega) x
    · intro hy
      obtain ⟨y, hy⟩ := idx_of_mem hy
      obtain ⟨j, rfl, hj⟩ := of_emb_row0 inb_S2048x2048_S2048x1024_0_1024 y i t hy
      omega
  · have he := emb_row0 inb_S2048x2048_S2048x1024_0_1024 i (⟨t.val - 1024, by omega⟩ : Fin 1024) t
      (by show t.val = 1024 + (t.val - 1024); omega)
    rw [← he]
    refine (View.canon_cons_emb _ _ _ _).trans ?_
    rw [score_apply]
    simp only [queryRead_apply]
    refine congrArg Ideal.exp (Finset.sum_congr rfl fun x _ => congrArg _ ?_)
    exact keyRead_apply arg9 q8 s9 h 1 _ t (by show t.val = 1024 * 1 + (t.val - 1024); omega) x

/-- What the heads read of the values' scratch. -/
structure ReadsValues : Prop where
  value : ∀ (h : Fin 4) (t : Fin 2048) (x : Fin 64), va (ix2 t (qCol h x)) = q8 (ix2 t (vCol h x))
  one : ∀ (h : Fin 4) (t : Fin 2048) (x : Fin 64), va (ix2 t (vCol h x)) = 1
  value' : ∀ (h : Fin 4) (t : Fin 2048) (x : Fin 64), vb (ix2 t (qCol h x)) = q8 (ix2 t (vCol h x))

theorem headPay_apply (hv : ReadsValues q8 va vb) (h : Fin 4) (L : List (View.Piece (Elt Ideal) S2048x2048 .bf16)) (i : Fin 2048) (j : Fin 64) :
    headPay arg8 arg9 arg12 q8 s9 va vb h L (ix2 i j) = slotVal q8 s9 h i j := by
  have e1 : ∀ t : Fin 2048, View.ld va (Rect.unit (s := S2048x512) ![0, 128 * h.val] S2048x128.size (inb_values h))
      (ix2 t (⟨j.val, by omega⟩ : Fin 128)) = q8 (ix2 t (vCol h j)) := fun t =>
    (congrArg va (emb_row0 (inb_values h) t (⟨j.val, by omega⟩ : Fin 128) (qCol h j)
      (by show 64 * (2 * h.val) + j.val = 128 * h.val + j.val; omega))).trans (hv.value h t j)
  have e2 : ∀ t : Fin 2048, View.ld va (Rect.unit (s := S2048x512) ![0, 128 * h.val] S2048x128.size (inb_values h))
      (ix2 t (64 : Fin 128)) = 1 := fun t =>
    (congrArg va (emb_row0 (inb_values h) t (64 : Fin 128) (vCol h 0)
      (by show 64 * (2 * h.val + 1) + 0 = 128 * h.val + 64; omega))).trans (hv.one h t 0)
  have e3 : View.ld vb (Rect.unit (s := S2048x512) ![0, 64 * (2 * h.val)] S2048x64.size (inb_value ⟨2 * h.val, by omega⟩))
      (ix2 i j) = q8 (ix2 i (vCol h j)) :=
    (congrArg vb (emb_row0 (inb_value ⟨2 * h.val, by omega⟩) i j (qCol h j) rfl)).trans (hv.value' h i j)
  unfold headPay
  rw [quotient_apply]
  simp only [e1, e2, e3, selfOf_apply, expRead_apply]
  rfl

/-- The pair of heads `h, h'` as the gathered store takes it. -/
theorem pair_apply (hv : ReadsValues q8 va vb) (h h' : Fin 4) (L L' : List (View.Piece (Elt Ideal) S2048x2048 .bf16))
    (P : List (View.Piece (Elt Ideal) S2048x128 .bf16)) (i : Fin 2048) (j : Fin 64) (k : Fin 128) :
    (k.val = j.val → pairPay arg11 (pairPieces arg8 arg9 arg12 q8 s9 va vb h h' L L' P) (ix2 i k) = slotVal q8 s9 h i j)
      ∧ (k.val = 64 + j.val → pairPay arg11 (pairPieces arg8 arg9 arg12 q8 s9 va vb h h' L L' P) (ix2 i k) = slotVal q8 s9 h' i j) := by
  have hr : pairPay arg11 (pairPieces arg8 arg9 arg12 q8 s9 va vb h h' L L' P) (ix2 i k)
      = View.canon (pairPieces arg8 arg9 arg12 q8 s9 va vb h h' L L' P) (ix2 i k : S2048x128.Idx) := by
    unfold pairPay
    pointwise
    rw [View.readCov_eq_canon']
    show View.canon _ ((Rect.unit (s := S2048x128) ![0, 0] S2048x128.size inb_S2048x128_S2048x128_0_0).emb (ix2 i k)) = _
    rw [emb_row0 inb_S2048x128_S2048x128_0_0 i k k (by omega)]
  rw [hr]
  unfold pairPieces
  constructor
  · intro hk
    rw [View.canon_cons_of_not_mem]
    · rw [← emb_row0 inb_S2048x128_S2048x64_0_0 i j k (by omega)]
      exact (View.canon_cons_emb _ _ _ _).trans (headPay_apply arg8 arg9 arg12 q8 s9 va vb hv h L i j)
    · intro hy
      obtain ⟨y, hy⟩ := idx_of_mem hy
      obtain ⟨j', rfl, hj⟩ := of_emb_row0 inb_S2048x128_S2048x64_0_64 y i k hy
      omega
  · intro hk
    rw [← emb_row0 inb_S2048x128_S2048x64_0_64 i j k (by omega)]
    exact (View.canon_cons_emb _ _ _ _).trans (headPay_apply arg8 arg9 arg12 q8 s9 va vb hv h' L' i j)

/-- The gathered heads' columns that one point fills. -/
def gCol (p h : Fin 4) (x : Fin 64) : Fin 1024 := ⟨256 * p.val + 64 * h.val + x.val, by omega⟩

theorem off1_eq (i : grid0.Coords) : k0_off1 i 1#32 = ![0, 256 * (i 1).val] := by
  unfold k0_off1
  generalize i 1 = p
  revert p
  decide

theorem off3_eq (i : grid0.Coords) : k0_off1 i 3#32 = ![0, 256 * (i 1).val + 128] := by
  unfold k0_off1
  generalize i 1 = p
  revert p
  decide

theorem emb_off {o : Fin 2 → ℕ} {c : ℕ} (ho : o = ![0, c]) (inb : ∀ a, o a + S2048x128.size a ≤ S2048x1024.size a)
    (i : Fin 2048) (j : Fin 128) (k : Fin 1024) (h : k.val = c + j.val) :
    (Rect.unit (s := S2048x1024) o S2048x128.size inb).emb (ix2 i j : S2048x128.Idx) = (ix2 i k : S2048x1024.Idx) := by
  subst ho; exact emb_row0 inb i j k h

theorem of_emb_off {o : Fin 2 → ℕ} {c : ℕ} (ho : o = ![0, c]) (inb : ∀ a, o a + S2048x128.size a ≤ S2048x1024.size a)
    (x : S2048x128.Idx) (i : Fin 2048) (k : Fin 1024)
    (h : (Rect.unit (s := S2048x1024) o S2048x128.size inb).emb x = (ix2 i k : S2048x1024.Idx)) :
    ∃ j : Fin 128, x = ix2 i j ∧ k.val = c + j.val := by
  subst ho; exact of_emb_row0 inb x i k h

/-- What a point's two stores leave in the gathered heads: its four heads in its columns, the rest as before. -/
theorem heads_apply (i : grid0.Coords) (p : Fin 4) (hp : (i 1).val = p.val) (hv : ReadsValues q8 va vb)
    {sig' : RefSig} {κ : Kind} {sp : Space} (w : View sig' κ sp S2048x1024 .bf16) (f : w.ty.Contents (Elt Ideal)) :
    (∀ (s : Fin 2048) (h : Fin 4) (x : Fin 64),
        w.read (Elt Ideal) (w.writes (Elt Ideal) f (headPieces arg8 arg9 arg11 arg12 q8 s9 va vb i)) (ix2 s (gCol p h x))
          = slotVal q8 s9 h s x)
      ∧ ∀ (s : Fin 2048) (k : Fin 1024), k.val < 256 * p.val →
        w.read (Elt Ideal) (w.writes (Elt Ideal) f (headPieces arg8 arg9 arg11 arg12 q8 s9 va vb i)) (ix2 s k)
          = w.read (Elt Ideal) f (ix2 s k) := by
  have o1 : k0_off1 i 1#32 = ![0, 256 * p.val] := by rw [off1_eq, hp]
  have o3 : k0_off1 i 3#32 = ![0, 256 * p.val + 128] := by rw [off3_eq, hp]
  have p1 := pair_apply arg8 arg9 arg11 arg12 q8 s9 va vb hv 0 1 [] (exps1 arg8 arg9 q8 s9) []
  have p2 := pair_apply arg8 arg9 arg11 arg12 q8 s9 va vb hv 2 3 (exps2 arg8 arg9 q8 s9) (exps3 arg8 arg9 q8 s9)
    (pairs1 arg8 arg9 arg12 q8 s9 va vb)
  constructor
  · intro s h x
    by_cases hh : h.val < 2
    · refine read_eq_of_pieces w f _ _ _ (fun q hq y hy => ?_)
        ⟨_, List.mem_cons_of_mem _ List.mem_cons_self, mem_of_emb _
          (emb_off o1 (k0_off1_inb i 0) s (⟨64 * h.val + x.val, by omega⟩ : Fin 128) (gCol p h x)
            (by show 256 * p.val + 64 * h.val + x.val = 256 * p.val + (64 * h.val + x.val); omega))⟩
      rcases List.mem_cons.mp hq with rfl | hq
      · obtain ⟨j, rfl, hj⟩ := of_emb_off o3 (k0_off1_inb i 1) y s (gCol p h x) hy
        have : 256 * p.val + 64 * h.val + x.val = 256 * p.val + 128 + j.val := hj
        omega
      · obtain rfl := List.mem_singleton.mp hq
        obtain ⟨j, rfl, hj⟩ := of_emb_off o1 (k0_off1_inb i 0) y s (gCol p h x) hy
        have hj : 256 * p.val + 64 * h.val + x.val = 256 * p.val + j.val := hj
        match h, hh with
        | 0, _ => exact (p1 s x j).1 (by simp at hj; omega)
        | 1, _ => exact (p1 s x j).2 (by simp at hj; omega)
    · refine read_eq_of_pieces w f _ _ _ (fun q hq y hy => ?_)
        ⟨_, List.mem_cons_self, mem_of_emb _
          (emb_off o3 (k0_off1_inb i 1) s (⟨64 * h.val + x.val - 128, by omega⟩ : Fin 128) (gCol p h x)
            (by show 256 * p.val + 64 * h.val + x.val = 256 * p.val + 128 + (64 * h.val + x.val - 128); omega))⟩
      rcases List.mem_cons.mp hq with rfl | hq
      · obtain ⟨j, rfl, hj⟩ := of_emb_off o3 (k0_off1_inb i 1) y s (gCol p h x) hy
        have hj : 256 * p.val + 64 * h.val + x.val = 256 * p.val + 128 + j.val := hj
        match h, hh with
        | 0, hh => exact absurd (by decide) hh
        | 1, hh => exact absurd (by decide) hh
        | 2, _ => exact (p2 s x j).1 (by simp at hj; omega)
        | 3, _ => exact (p2 s x j).2 (by simp at hj; omega)
      · obtain rfl := List.mem_singleton.mp hq
        obtain ⟨j, rfl, hj⟩ := of_emb_off o1 (k0_off1_inb i 0) y s (gCol p h x) hy
        have : 256 * p.val + 64 * h.val + x.val = 256 * p.val + j.val := hj
        have := j.isLt
        omega
  · intro s k hk
    refine read_eq_of_no_piece w f _ _ fun q hq y hy => ?_
    rcases List.mem_cons.mp hq with rfl | hq
    · obtain ⟨j, rfl, hj⟩ := of_emb_off o3 (k0_off1_inb i 1) y s k hy
      omega
    · obtain rfl := List.mem_singleton.mp hq
      obtain ⟨j, rfl, hj⟩ := of_emb_off o1 (k0_off1_inb i 0) y s k hy
      omega

end Heads

/-! ## The projection, the sums of squares and the output product -/

theorem proj_apply (x0 : Vec Ideal S1x2048x1024 .bf16) (x1 : Vec Ideal S1x1024x512 .bf16) (i : Fin 2048) (j : Fin 512) :
    k0_pay8 x0 x1 (ix2 i j) = ∑ d, x0 (ix3 0 i d) * x1 (ix3 0 d j) := by
  pointwise [k0_pay8]

theorem sums_apply (x0 : Vec Ideal S1x2048x1024 .bf16) (x1 : Vec Ideal S1x1024x512 .bf16) (x3 : Vec Ideal S1x512x128 .bf16)
    (i : Fin 2048) (h : Fin 128) :
    k0_pay9 x0 x1 x3 (ix2 i h) = ∑ r, (k0_pay8 x0 x1 (ix2 i r) * k0_pay8 x0 x1 (ix2 i r)) * x3 (ix3 0 r h) := by
  pointwise [k0_pay9]

theorem out_apply (a : Vec Ideal S2048x1024 .bf16) (x2 : Vec Ideal S1x1024x1024 .bf16) (i : Fin 2048) (j : Fin 1024) :
    k0_pay3 a x2 (ix3 0 i j) = ∑ r, a (ix2 i r) * x2 (ix3 0 r j) := by
  pointwise [k0_pay3]

end Cert.KernelIdeal.Attn

end
-- ==== Proof.Attn.Carry.lean ====
/- What the two carried scratch buffers hold between the grid's points, and that one point's stores keep it so. -/
module

public import proofs.«01_k».proof.Proof.Attn.Vals

@[expose] public section

set_option maxRecDepth 16384

noncomputable section

namespace Cert.KernelIdeal.Attn

open Cert.KernelIdeal Cert.KernelIdeal.Gen
open Idealize.ShloMosaic Idealize.ShloMosaic.TcCoe

variable (m : (ℓ : Loc nD τ sig) → Buf (Elt Ideal) ℓ)

/-- The input blocks of a point as vectors. -/
abbrev blkX (c : Dev nD) (t : Fin cfg0.N) : Vec Ideal S1x2048x1024 .bf16 := iblk m c 0 t
abbrev blkW (c : Dev nD) (t : Fin cfg0.N) : Vec Ideal S1x1024x512 .bf16 := iblk m c 1 t
abbrev blkO (c : Dev nD) (t : Fin cfg0.N) : Vec Ideal S1x1024x1024 .bf16 := iblk m c 2 t
abbrev blkS (c : Dev nD) (t : Fin cfg0.N) : Vec Ideal S1x512x128 .bf16 := iblk m c 3 t

/-- Head `h` of point `t`'s group. -/
def headOf (c : Dev nD) (t : Fin cfg0.N) (h : Fin 4) : Fin 2048 → Fin 64 → EReal :=
  slotVal (k0_pay8 (blkX m c t) (blkW m c t)) (k0_pay9 (blkX m c t) (blkW m c t) (blkS m c t)) h

/-- Point `n` of the grid. -/
def pt (n : ℕ) (hn : n < 8) : Fin cfg0.N := ⟨n, Nat.lt_of_lt_of_eq hn N_0.symm⟩

/-- The gathered heads of batch entry `b`: column `k` is of group `k / 256`, slot `k % 256 / 64`. -/
def gathered (c : Dev nD) (b : Fin 2) (s : Fin 2048) (k : Fin 1024) : EReal :=
  headOf m c (pt (4 * b.val + k.val / 256) (by omega)) ⟨k.val % 256 / 64, by omega⟩ s ⟨k.val % 64, by omega⟩

/-- Point `n`'s batch entry. -/
def entry (n : ℕ) (hn : n < 8) : Fin 2 := ⟨n / 4, by omega⟩

theorem gathered_gCol (c : Dev nD) (t : Fin cfg0.N) (ht : t.val < 8) (p h : Fin 4) (hp : t.val % 4 = p.val) (s : Fin 2048) (x : Fin 64) :
    gathered m c (entry t.val ht) s (gCol p h x) = headOf m c t h s x := by
  have e : (gCol p h x).val = 256 * p.val + 64 * h.val + x.val := rfl
  have e1 : pt (4 * (entry t.val ht).val + (gCol p h x).val / 256) (by rw [e]; show 4 * (t.val / 4) + _ < 8; omega) = t := by
    apply Fin.ext
    show 4 * (t.val / 4) + (gCol p h x).val / 256 = t.val
    rw [e]; omega
  have e2 : (⟨(gCol p h x).val % 256 / 64, by omega⟩ : Fin 4) = h := by
    apply Fin.ext
    show (gCol p h x).val % 256 / 64 = h.val
    rw [e]; omega
  have e3 : (⟨(gCol p h x).val % 64, by omega⟩ : Fin 64) = x := by
    apply Fin.ext
    show (gCol p h x).val % 64 = x.val
    rw [e]; omega
  unfold gathered
  rw [e1, e2, e3]

/-- After point `n`: the columns of ones stand, and the gathered heads hold the groups of `n`'s batch entry so far. -/
structure Carried (c : Dev nD) (n : ℕ) (hn : n < 8) (d0 : Vec Ideal S2048x512 .bf16) (d3 : Vec Ideal S2048x1024 .bf16) : Prop where
  ones : ∀ (h : Fin 4) (t : Fin 2048) (x : Fin 64), d0 (ix2 t (vCol h x)) = 1
  heads : ∀ (s : Fin 2048) (k : Fin 1024), k.val < 256 * (n % 4 + 1) → d3 (ix2 s k) = gathered m c (entry n hn) s k

section Step

variable (arg8 arg9 : Memref sig .tc .vmem S2048x256 .bf16) (arg11 : Memref sig .tc .vmem S2048x128 .bf16)
  (arg12 : Memref sig .tc .vmem S2048x2048 .bf16)
  (arg7 : Memref sig .tc .vmem S2048x512 .bf16) (harg7 : arg7.IsWhole)
  (arg10 : Memref sig .tc .vmem S2048x1024 .bf16) (harg10 : arg10.IsWhole)

/-- One point's stores keep it: `L` the stores into the values' scratch; `va`, `vb` what the heads read of it. -/
theorem carried_step (c : Dev nD) (t : Fin cfg0.N) (ht : t.val < 8) (xs0 : Vec Ideal S2048x512 .bf16) (xs3 : Vec Ideal S2048x1024 .bf16)
    (L : List (View.Piece (Elt Ideal) S2048x512 .bf16)) (va vb : Vec Ideal S2048x512 .bf16)
    (hones : ∀ (h : Fin 4) (s : Fin 2048) (x : Fin 64),
      arg7.view.read (Elt Ideal) (arg7.view.writes (Elt Ideal) (harg7.unread xs0) L) (ix2 s (vCol h x)) = 1)
    (hv : ReadsValues (k0_pay8 (blkX m c t) (blkW m c t)) va vb)
    (hprev : t.val % 4 ≠ 0 → ∀ (s : Fin 2048) (k : Fin 1024), k.val < 256 * (t.val % 4) → xs3 (ix2 s k) = gathered m c (entry t.val ht) s k) :
    Carried m c t.val ht (arg7.view.read (Elt Ideal) (arg7.view.writes (Elt Ideal) (harg7.unread xs0) L))
      (arg10.view.read (Elt Ideal) (arg10.view.writes (Elt Ideal) (harg10.unread xs3)
        (headPieces arg8 arg9 arg11 arg12 (k0_pay8 (blkX m c t) (blkW m c t)) (k0_pay9 (blkX m c t) (blkW m c t) (blkS m c t)) va vb (grid0.coords t)))) := by
  have e1 : (grid0.coords t 1).val = t.val / 1 % 4 := Pipeline.Grid.coords_val t 1 (by decide) rfl
  rw [Nat.div_one] at e1
  obtain ⟨hh, hk⟩ := heads_apply arg8 arg9 arg11 arg12 (k0_pay8 (blkX m c t) (blkW m c t)) (k0_pay9 (blkX m c t) (blkW m c t) (blkS m c t)) va vb
    (grid0.coords t) ⟨t.val % 4, Nat.mod_lt _ (by decide)⟩ e1 hv arg10.view (harg10.unread xs3)
  refine ⟨hones, fun s k hlt => ?_⟩
  by_cases hkp : k.val < 256 * (t.val % 4)
  · rw [hk s k hkp, harg10.read_unread]
    exact hprev (by omega) s k hkp
  · have hkc : k = gCol ⟨t.val % 4, Nat.mod_lt _ (by decide)⟩ ⟨(k.val - 256 * (t.val % 4)) / 64, by omega⟩ ⟨k.val % 64, by omega⟩ := by
      apply Fin.ext
      show k.val = 256 * (t.val % 4) + 64 * ((k.val - 256 * (t.val % 4)) / 64) + k.val % 64
      omega
    rw [hkc, hh, gathered_gCol m c t ht _ _ rfl]
    rfl

end Step

section Cases

variable (arg7 : Memref sig .tc .vmem S2048x512 .bf16) (harg7 : arg7.IsWhole)
variable (q8 : FVec Ideal S2048x512 .bf16)

/-- The values' stores, with the ones' or without, hold every value's piece and nothing else. -/
theorem values_only : ∀ p ∈ valuePieces q8, (∃ h, p = valuePiece q8 h) ∨ ∃ h, p = onesPiece h :=
  fun p hp => .inl ((mem_valuePieces q8 p).mp hp)

theorem values_ones : ∀ p ∈ valuePieces q8 ++ onesPieces, (∃ h, p = valuePiece q8 h) ∨ ∃ h, p = onesPiece h := fun p hp =>
  (List.mem_append.mp hp).elim (fun h => .inl ((mem_valuePieces q8 p).mp h)) fun h => .inr ((mem_onesPieces p).mp h)

theorem value_mem (h : Fin 4) : valuePiece q8 h ∈ valuePieces q8 := (mem_valuePieces q8 _).mpr ⟨h, rfl⟩

theorem ones_first (f) (h : Fin 4) (s : Fin 2048) (x : Fin 64) :
    arg7.view.read (Elt Ideal) (arg7.view.writes (Elt Ideal) f (valuePieces q8 ++ onesPieces)) (ix2 s (vCol h x)) = 1 :=
  ones_kept arg7.view f q8 _ (values_ones q8) (.inl fun h => List.mem_append_right _ ((mem_onesPieces _).mpr ⟨h, rfl⟩)) h s x

theorem ones_later (xs0 : Vec Ideal S2048x512 .bf16) (hx : ∀ (h : Fin 4) (t : Fin 2048) (x : Fin 64), xs0 (ix2 t (vCol h x)) = 1)
    (h : Fin 4) (s : Fin 2048) (x : Fin 64) :
    arg7.view.read (Elt Ideal) (arg7.view.writes (Elt Ideal) (harg7.unread xs0) (valuePieces q8)) (ix2 s (vCol h x)) = 1 :=
  ones_kept arg7.view _ q8 _ (values_only q8) (.inr ⟨fun p hp => (mem_valuePieces q8 p).mp hp, fun h t x => by
    rw [harg7.read_unread]; exact hx h t x⟩) h s x

theorem reads_first : ReadsValues q8 (ofStores arg7 (valuePieces q8 ++ onesPieces)) (ofStores arg7 (valuePieces q8 ++ onesPieces)) where
  value := values_apply arg7.view _ q8 _ (values_ones q8) fun h => List.mem_append_left _ (value_mem q8 h)
  one := ones_first arg7 q8 _
  value' := values_apply arg7.view _ q8 _ (values_ones q8) fun h => List.mem_append_left _ (value_mem q8 h)

theorem reads_later (xs0 : Vec Ideal S2048x512 .bf16) (hx : ∀ (h : Fin 4) (t : Fin 2048) (x : Fin 64), xs0 (ix2 t (vCol h x)) = 1) :
    ReadsValues q8 (afterStores arg7 harg7 xs0 (valuePieces q8)) (ofStores arg7 (valuePieces q8)) where
  value := values_apply arg7.view _ q8 _ (values_only q8) (value_mem q8)
  one := ones_later arg7 harg7 q8 xs0 hx
  value' := values_apply arg7.view _ q8 _ (values_only q8) (value_mem q8)

end Cases

/-! ## The output block -/

/-- The output block that a point stores at the end of its batch entry. -/
def outBlk (c : Dev nD) (t : Fin cfg0.N) : Vec Ideal S1x2048x1024 .f32 := fun y =>
  ∑ k, gathered m c (entry t.val (Nat.lt_of_lt_of_eq t.isLt N_0)) (y 1) k * blkO m c t (ix3 0 k (y 2))

theorem out_of_carried (c : Dev nD) (t : Fin cfg0.N) (ht : t.val < 8) (h3 : t.val % 4 = 3) (d0 : Vec Ideal S2048x512 .bf16)
    (d3 : Vec Ideal S2048x1024 .bf16) (h : Carried m c t.val ht d0 d3) : k0_pay3 d3 (blkO m c t) = outBlk m c t := by
  funext y
  obtain ⟨i, j, rfl⟩ : ∃ (i : Fin 2048) (j : Fin 1024), y = ix3 0 i j := ⟨y 1, y 2, by
    funext a; apply Fin.ext
    match a with
    | ⟨0, _⟩ => show (y 0).val = 0; exact Nat.lt_one_iff.mp (y 0).isLt
    | ⟨1, _⟩ => rfl
    | ⟨2, _⟩ => rfl⟩
  rw [out_apply]
  refine Finset.sum_congr rfl fun k _ => ?_
  rw [h.heads i k (by have := k.isLt; omega)]
  rfl

end Cert.KernelIdeal.Attn

end
-- ==== Proof.Attn.After.lean ====
/- What the stores of each kind of point leave: the carried buffers stay as described, and the last point of a batch entry
   stores its output block. -/
module

public import proofs.«01_k».proof.Proof.Attn.Carry

@[expose] public section

set_option maxRecDepth 16384

noncomputable section

namespace Cert.KernelIdeal.Attn

open Cert.KernelIdeal Cert.KernelIdeal.Gen
open Idealize.ShloMosaic Idealize.ShloMosaic.TcCoe

variable (m : (ℓ : Loc nD τ sig) → Buf (Elt Ideal) ℓ)

/-! ## The stores of each kind of point -/

section After

variable (c : Dev nD) (t : Fin cfg0.N) (ht : t.val < 8)
  (arg2 : Memref sig .tc .vmem S1x2048x1024 .bf16) (harg2 : arg2.IsWhole)
  (arg3 : Memref sig .tc .vmem S1x1024x512 .bf16) (harg3 : arg3.IsWhole)
  (arg4 : Memref sig .tc .vmem S1x1024x1024 .bf16) (harg4 : arg4.IsWhole)
  (arg5 : Memref sig .tc .vmem S1x512x128 .bf16) (harg5 : arg5.IsWhole)
  (arg6 : Memref sig .tc .vmem S1x2048x1024 .f32) (harg6 : arg6.IsWhole)
  (arg7 : Memref sig .tc .vmem S2048x512 .bf16) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S2048x1024 .bf16) (harg10 : arg10.IsWhole)
  (arg11 : Memref sig .tc .vmem S2048x128 .bf16) (harg11 : arg11.IsWhole)
  (arg12 : Memref sig .tc .vmem S2048x2048 .bf16) (harg12 : arg12.IsWhole)
variable (x4 : Vec Ideal S1x2048x1024 .f32) (xs0 : Vec Ideal S2048x512 .bf16) (xs3 : Vec Ideal S2048x1024 .bf16)

theorem projOf_eq : projOf arg2 harg2 arg3 harg3 (blkX m c t) (blkW m c t) = k0_pay8 (blkX m c t) (blkW m c t) := by
  unfold projOf; rw [load0_eq, load1_eq]

theorem sumsOf_eq : sumsOf arg2 harg2 arg3 harg3 arg5 harg5 (blkX m c t) (blkW m c t) (blkS m c t)
    = k0_pay9 (blkX m c t) (blkW m c t) (blkS m c t) := by
  unfold sumsOf; rw [load0_eq, load1_eq, load3_eq]

theorem after_first (hc0 : isFirst (grid0.coords t)) (hc1 : ¬isLast (grid0.coords t)) (h0 : t.val % 4 = 0) :
    Carried m c t.val ht
      (arg7.view.read (Elt Ideal) (arg7.view.writes (Elt Ideal) (harg7.unread xs0)
        (runFirst c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) x4 xs0 xs3).1.1))
      (arg10.view.read (Elt Ideal) (arg10.view.writes (Elt Ideal) (harg10.unread xs3)
        (runFirst c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) x4 xs0 xs3).1.2)) := by
  rw [runFirst_values, runFirst_heads, projOf_eq, sumsOf_eq]
  exact carried_step m arg8 arg9 arg11 arg12 arg7 harg7 arg10 harg10 c t ht xs0 xs3 _ _ _ (ones_first arg7 _ _) (reads_first arg7 _)
    fun h => absurd h0 h

/-- What the point before leaves is what a later group of the same batch entry needs. -/
theorem heads_before (hp : t.val - 1 < 8) (h0 : t.val % 4 ≠ 0) (h : Carried m c (t.val - 1) hp xs0 xs3) (s : Fin 2048) (k : Fin 1024)
    (hk : k.val < 256 * (t.val % 4)) : xs3 (ix2 s k) = gathered m c (entry t.val ht) s k := by
  rw [h.heads s k (by omega)]
  congr 1
  apply Fin.ext
  show (t.val - 1) / 4 = t.val / 4
  omega

theorem after_mid (hc0 : ¬isFirst (grid0.coords t)) (hc1 : ¬isLast (grid0.coords t)) (h0 : t.val % 4 ≠ 0) (hp : t.val - 1 < 8)
    (h : Carried m c (t.val - 1) hp xs0 xs3) :
    Carried m c t.val ht
      (arg7.view.read (Elt Ideal) (arg7.view.writes (Elt Ideal) (harg7.unread xs0)
        (runMid c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) x4 xs0 xs3).1.1))
      (arg10.view.read (Elt Ideal) (arg10.view.writes (Elt Ideal) (harg10.unread xs3)
        (runMid c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) x4 xs0 xs3).1.2)) := by
  rw [runMid_values, runMid_heads, projOf_eq, sumsOf_eq]
  exact carried_step m arg8 arg9 arg11 arg12 arg7 harg7 arg10 harg10 c t ht xs0 xs3 _ _ _ (ones_later arg7 harg7 _ xs0 h.ones)
    (reads_later arg7 harg7 _ xs0 h.ones) fun h0 => heads_before m c t ht xs0 xs3 hp h0 h

theorem after_last (hc0 : ¬isFirst (grid0.coords t)) (hc1 : isLast (grid0.coords t)) (h0 : t.val % 4 ≠ 0) (hp : t.val - 1 < 8)
    (h : Carried m c (t.val - 1) hp xs0 xs3) :
    Carried m c t.val ht
      (arg7.view.read (Elt Ideal) (arg7.view.writes (Elt Ideal) (harg7.unread xs0)
        (runLast c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) xs0 xs3).1.1))
      (arg10.view.read (Elt Ideal) (arg10.view.writes (Elt Ideal) (harg10.unread xs3)
        (runLast c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) xs0 xs3).1.2.1)) := by
  rw [runLast_values, runLast_heads, projOf_eq, sumsOf_eq]
  exact carried_step m arg8 arg9 arg11 arg12 arg7 harg7 arg10 harg10 c t ht xs0 xs3 _ _ _ (ones_later arg7 harg7 _ xs0 h.ones)
    (reads_later arg7 harg7 _ xs0 h.ones) fun h0 => heads_before m c t ht xs0 xs3 hp h0 h

theorem out_last (hc0 : ¬isFirst (grid0.coords t)) (hc1 : isLast (grid0.coords t)) (h3 : t.val % 4 = 3) (hp : t.val - 1 < 8)
    (h : Carried m c (t.val - 1) hp xs0 xs3) (f : arg6.view.ty.Contents (Elt Ideal)) :
    arg6.view.read (Elt Ideal) (arg6.view.writes (Elt Ideal) f
      (runLast c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) xs0 xs3).1.2.2)
      = outBlk m c t := by
  have ht : t.val < 8 := Nat.lt_of_lt_of_eq t.isLt N_0
  have hl := after_last m c t ht arg2 harg2 arg3 harg3 arg4 harg4 arg5 harg5 arg6 harg6 arg7 harg7 arg8 harg8 arg9 harg9 arg10 harg10 arg11 harg11
    arg12 harg12 xs0 xs3 hc0 hc1 (by omega) hp h
  rw [runLast_out, View.readAt_full, View.readAt_full, harg4.read_unread, out_of_carried m c t ht h3 _ _ hl]
  funext y
  have hy : (Rect.unit (s := S1x2048x1024) ![0, 0, 0] S1x2048x1024.size inb_S1x2048x1024_S1x2048x1024_0_0_0).emb y = y := by
    funext a; apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  refine (congrArg _ hy.symm).trans ((View.read_writes_cons_emb _ _ _ _ _ _).trans ?_)
  rfl

end After

end Cert.KernelIdeal.Attn

end
-- ==== Proof.Attn.Points.lean ====
/- The body at each kind of point, with the carried scratch buffers described by `Carried` before and after. -/
module

public import proofs.«01_k».proof.Proof.Attn.After

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The six scratch buffers after point `n`: the two carried ones as `Carried` describes, the others at anything. -/
def held (c : Dev nD) (n : ℕ) (hn : n < 8) (arg7 : Memref sig .tc .vmem S2048x512 .bf16) (arg8 arg9 : Memref sig .tc .vmem S2048x256 .bf16)
    (arg10 : Memref sig .tc .vmem S2048x1024 .bf16) (arg11 : Memref sig .tc .vmem S2048x128 .bf16) (arg12 : Memref sig .tc .vmem S2048x2048 .bf16) : sProp 𝕄 :=
  iprop(∃ d0 d3, ⌜Carried m c n hn d0 d3⌝ ∗ owns (c : Thread nD τ) arg7 fullShare d0 ∗ (∃ d, owns (c : Thread nD τ) arg8 fullShare d) ∗ (∃ d, owns (c : Thread nD τ) arg9 fullShare d) ∗ owns (c : Thread nD τ) arg10 fullShare d3 ∗ (∃ d, owns (c : Thread nD τ) arg11 fullShare d) ∗ (∃ d, owns (c : Thread nD τ) arg12 fullShare d))

/-- What `held` gives. -/
theorem held_open (c : Dev nD) (n : ℕ) (hn : n < 8) (arg7 : Memref sig .tc .vmem S2048x512 .bf16) (arg8 arg9 : Memref sig .tc .vmem S2048x256 .bf16)
    (arg10 : Memref sig .tc .vmem S2048x1024 .bf16) (arg11 : Memref sig .tc .vmem S2048x128 .bf16) (arg12 : Memref sig .tc .vmem S2048x2048 .bf16) :
    held m c n hn arg7 arg8 arg9 arg10 arg11 arg12 ⊢ iprop(∃ d0 d3, ⌜Carried m c n hn d0 d3⌝ ∗ owns (c : Thread nD τ) arg7 fullShare d0 ∗ (∃ d, owns (c : Thread nD τ) arg8 fullShare d) ∗ (∃ d, owns (c : Thread nD τ) arg9 fullShare d) ∗ owns (c : Thread nD τ) arg10 fullShare d3 ∗ (∃ d, owns (c : Thread nD τ) arg11 fullShare d) ∗ (∃ d, owns (c : Thread nD τ) arg12 fullShare d)) := by
  unfold held
  iintro H
  iexact H

/-- The scratch buffers as a run hands them back, closed into `held`. -/
theorem held_of (c : Dev nD) (n : ℕ) (hn : n < 8) (arg7 : Memref sig .tc .vmem S2048x512 .bf16) (arg8 arg9 : Memref sig .tc .vmem S2048x256 .bf16)
    (arg10 : Memref sig .tc .vmem S2048x1024 .bf16) (arg11 : Memref sig .tc .vmem S2048x128 .bf16) (arg12 : Memref sig .tc .vmem S2048x2048 .bf16)
    (f7 : arg7.view.ty.Contents (Elt Ideal)) (f10 : arg10.view.ty.Contents (Elt Ideal))
    (h : Carried m c n hn (arg7.view.read (Elt Ideal) f7) (arg10.view.read (Elt Ideal) f10)) :
    (iprop((arg7.view.loc (c : Thread nD τ) ↦[arg7.view.set]{fullShare} f7) ∗ (∃ d, owns (c : Thread nD τ) arg8 fullShare d) ∗ (∃ d, owns (c : Thread nD τ) arg9 fullShare d) ∗ (arg10.view.loc (c : Thread nD τ) ↦[arg10.view.set]{fullShare} f10) ∗ (∃ d, owns (c : Thread nD τ) arg11 fullShare d) ∗ (∃ d, owns (c : Thread nD τ) arg12 fullShare d)) : sProp 𝕄)
      ⊢ held m c n hn arg7 arg8 arg9 arg10 arg11 arg12 := by
  unfold held
  iintro ⟨HS0, HS1, HS2, HS3, HS4, HS5⟩
  iexists _, _
  isplitr
  · ipureintro; exact h
  isplitl [HS0]
  · unfold owns; iexists _; isplitr
    swap; · iexact HS0
    ipureintro; rfl
  isplitl [HS1]; · iexact HS1
  isplitl [HS2]; · iexact HS2
  isplitl [HS3]
  · unfold owns; iexists _; isplitr
    swap; · iexact HS3
    ipureintro; rfl
  isplitl [HS4]; · iexact HS4
  iexact HS5

variable (c : Dev nD) (t : Fin cfg0.N) (ht : t.val < 8)
  (arg2 : Memref sig .tc .vmem S1x2048x1024 .bf16) (harg2 : arg2.IsWhole)
  (arg3 : Memref sig .tc .vmem S1x1024x512 .bf16) (harg3 : arg3.IsWhole)
  (arg4 : Memref sig .tc .vmem S1x1024x1024 .bf16) (harg4 : arg4.IsWhole)
  (arg5 : Memref sig .tc .vmem S1x512x128 .bf16) (harg5 : arg5.IsWhole)
  (arg6 : Memref sig .tc .vmem S1x2048x1024 .f32) (harg6 : arg6.IsWhole)
  (arg7 : Memref sig .tc .vmem S2048x512 .bf16) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S2048x1024 .bf16) (harg10 : arg10.IsWhole)
  (arg11 : Memref sig .tc .vmem S2048x128 .bf16) (harg11 : arg11.IsWhole)
  (arg12 : Memref sig .tc .vmem S2048x2048 .bf16) (harg12 : arg12.IsWhole)
variable (x4 : Vec Ideal S1x2048x1024 .f32) (xs0 : Vec Ideal S2048x512 .bf16) (xs3 : Vec Ideal S2048x1024 .bf16)
variable (E : Set ℕ) (K : PUnit → sProp 𝕄)

/-- The first group of a batch entry starts from any contents of the scratch. -/
theorem point_first (hc0 : isFirst (grid0.coords t)) (hc1 : ¬isLast (grid0.coords t)) (h0 : t.val % 4 = 0) :
    iprop(owns (c : Thread nD τ) arg2 fullShare (blkX m c t) ∗ owns (c : Thread nD τ) arg3 fullShare (blkW m c t) ∗ owns (c : Thread nD τ) arg4 fullShare (blkO m c t) ∗ owns (c : Thread nD τ) arg5 fullShare (blkS m c t) ∗ owns (c : Thread nD τ) arg6 fullShare x4 ∗ owns (c : Thread nD τ) arg7 fullShare xs0 ∗ (∃ d, owns (c : Thread nD τ) arg8 fullShare d) ∗ (∃ d, owns (c : Thread nD τ) arg9 fullShare d) ∗ owns (c : Thread nD τ) arg10 fullShare xs3 ∗ (∃ d, owns (c : Thread nD τ) arg11 fullShare d) ∗ (∃ d, owns (c : Thread nD τ) arg12 fullShare d)
        ∗ (iprop(owns (c : Thread nD τ) arg2 fullShare (blkX m c t) ∗ owns (c : Thread nD τ) arg3 fullShare (blkW m c t) ∗ owns (c : Thread nD τ) arg4 fullShare (blkO m c t) ∗ owns (c : Thread nD τ) arg5 fullShare (blkS m c t) ∗ owns (c : Thread nD τ) arg6 fullShare x4 ∗ held m c t.val ht arg7 arg8 arg9 arg10 arg11 arg12) -∗ K ⟨⟩))
      ⊢ wp frame (wpE (defs₀ (F := Ideal)) Variants.none c none) E (cc0__fused_attn_kernel (grid0.coords t) arg2 harg2 arg3 harg3 arg4 harg4 arg5 harg5 arg6 harg6 arg7 harg7 arg8 harg8 arg9 harg9 arg10 harg10 arg11 harg11 arg12 harg12) K := by
  have hcar := after_first m c t ht arg2 harg2 arg3 harg3 arg4 harg4 arg5 harg5 arg6 harg6 arg7 harg7 arg8 harg8 arg9 harg9 arg10 harg10 arg11 harg11 arg12 harg12 x4 xs0 xs3 hc0 hc1 h0
  have hrun := (runFirst c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) x4 xs0 xs3).2 E K
  generalize (runFirst c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) x4 xs0 xs3).1 = L at hcar hrun
  iintro ⟨H0, H1, H2, H3, H4, HS0, HS1, HS2, HS3, HS4, HS5, Hk⟩
  iapply hrun
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, HS0, HS1, HS2, HS3, HS4, HS5⟩
  iapply Hk
  isplitl [H0]; · iexact H0
  isplitl [H1]; · iexact H1
  isplitl [H2]; · iexact H2
  isplitl [H3]; · iexact H3
  isplitl [H4]; · iexact H4
  iapply (held_of m c t.val ht arg7 arg8 arg9 arg10 arg11 arg12 _ _ hcar)
  isplitl [HS0]; · iexact HS0
  isplitl [HS1]; · iexact HS1
  isplitl [HS2]; · iexact HS2
  isplitl [HS3]; · iexact HS3
  isplitl [HS4]; · iexact HS4
  iexact HS5

/-- A middle group goes on from what the point before left. -/
theorem point_mid (hc0 : ¬isFirst (grid0.coords t)) (hc1 : ¬isLast (grid0.coords t)) (h0 : t.val % 4 ≠ 0) (hp : t.val - 1 < 8)
    (h : Carried m c (t.val - 1) hp xs0 xs3) :
    iprop(owns (c : Thread nD τ) arg2 fullShare (blkX m c t) ∗ owns (c : Thread nD τ) arg3 fullShare (blkW m c t) ∗ owns (c : Thread nD τ) arg4 fullShare (blkO m c t) ∗ owns (c : Thread nD τ) arg5 fullShare (blkS m c t) ∗ owns (c : Thread nD τ) arg6 fullShare x4 ∗ owns (c : Thread nD τ) arg7 fullShare xs0 ∗ (∃ d, owns (c : Thread nD τ) arg8 fullShare d) ∗ (∃ d, owns (c : Thread nD τ) arg9 fullShare d) ∗ owns (c : Thread nD τ) arg10 fullShare xs3 ∗ (∃ d, owns (c : Thread nD τ) arg11 fullShare d) ∗ (∃ d, owns (c : Thread nD τ) arg12 fullShare d)
        ∗ (iprop(owns (c : Thread nD τ) arg2 fullShare (blkX m c t) ∗ owns (c : Thread nD τ) arg3 fullShare (blkW m c t) ∗ owns (c : Thread nD τ) arg4 fullShare (blkO m c t) ∗ owns (c : Thread nD τ) arg5 fullShare (blkS m c t) ∗ owns (c : Thread nD τ) arg6 fullShare x4 ∗ held m c t.val ht arg7 arg8 arg9 arg10 arg11 arg12) -∗ K ⟨⟩))
      ⊢ wp frame (wpE (defs₀ (F := Ideal)) Variants.none c none) E (cc0__fused_attn_kernel (grid0.coords t) arg2 harg2 arg3 harg3 arg4 harg4 arg5 harg5 arg6 harg6 arg7 harg7 arg8 harg8 arg9 harg9 arg10 harg10 arg11 harg11 arg12 harg12) K := by
  have hcar := after_mid m c t ht arg2 harg2 arg3 harg3 arg4 harg4 arg5 harg5 arg6 harg6 arg7 harg7 arg8 harg8 arg9 harg9 arg10 harg10 arg11 harg11 arg12 harg12 x4 xs0 xs3 hc0 hc1 h0 hp h
  have hrun := (runMid c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) x4 xs0 xs3).2 E K
  generalize (runMid c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) x4 xs0 xs3).1 = L at hcar hrun
  iintro ⟨H0, H1, H2, H3, H4, HS0, HS1, HS2, HS3, HS4, HS5, Hk⟩
  iapply hrun
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, HS0, HS1, HS2, HS3, HS4, HS5⟩
  iapply Hk
  isplitl [H0]; · iexact H0
  isplitl [H1]; · iexact H1
  isplitl [H2]; · iexact H2
  isplitl [H3]; · iexact H3
  isplitl [H4]; · iexact H4
  iapply (held_of m c t.val ht arg7 arg8 arg9 arg10 arg11 arg12 _ _ hcar)
  isplitl [HS0]; · iexact HS0
  isplitl [HS1]; · iexact HS1
  isplitl [HS2]; · iexact HS2
  isplitl [HS3]; · iexact HS3
  isplitl [HS4]; · iexact HS4
  iexact HS5

/-- The last group of a batch entry stores its output block as well. -/
theorem point_last (hc0 : ¬isFirst (grid0.coords t)) (hc1 : isLast (grid0.coords t)) (h3 : t.val % 4 = 3) (hp : t.val - 1 < 8)
    (h : Carried m c (t.val - 1) hp xs0 xs3) :
    iprop(owns (c : Thread nD τ) arg2 fullShare (blkX m c t) ∗ owns (c : Thread nD τ) arg3 fullShare (blkW m c t) ∗ owns (c : Thread nD τ) arg4 fullShare (blkO m c t) ∗ owns (c : Thread nD τ) arg5 fullShare (blkS m c t) ∗ (∃ d, owns (c : Thread nD τ) arg6 fullShare d) ∗ owns (c : Thread nD τ) arg7 fullShare xs0 ∗ (∃ d, owns (c : Thread nD τ) arg8 fullShare d) ∗ (∃ d, owns (c : Thread nD τ) arg9 fullShare d) ∗ owns (c : Thread nD τ) arg10 fullShare xs3 ∗ (∃ d, owns (c : Thread nD τ) arg11 fullShare d) ∗ (∃ d, owns (c : Thread nD τ) arg12 fullShare d)
        ∗ (iprop(owns (c : Thread nD τ) arg2 fullShare (blkX m c t) ∗ owns (c : Thread nD τ) arg3 fullShare (blkW m c t) ∗ owns (c : Thread nD τ) arg4 fullShare (blkO m c t) ∗ owns (c : Thread nD τ) arg5 fullShare (blkS m c t) ∗ owns (c : Thread nD τ) arg6 fullShare (outBlk m c t) ∗ held m c t.val ht arg7 arg8 arg9 arg10 arg11 arg12) -∗ K ⟨⟩))
      ⊢ wp frame (wpE (defs₀ (F := Ideal)) Variants.none c none) E (cc0__fused_attn_kernel (grid0.coords t) arg2 harg2 arg3 harg3 arg4 harg4 arg5 harg5 arg6 harg6 arg7 harg7 arg8 harg8 arg9 harg9 arg10 harg10 arg11 harg11 arg12 harg12) K := by
  have hcar := after_last m c t ht arg2 harg2 arg3 harg3 arg4 harg4 arg5 harg5 arg6 harg6 arg7 harg7 arg8 harg8 arg9 harg9 arg10 harg10 arg11 harg11 arg12 harg12 xs0 xs3 hc0 hc1 (by omega) hp h
  have hout := out_last m c t arg2 harg2 arg3 harg3 arg4 harg4 arg5 harg5 arg6 harg6 arg7 harg7 arg8 harg8 arg9 harg9 arg10 harg10 arg11 harg11 arg12 harg12 xs0 xs3 hc0 hc1 h3 hp h
  have hrun := (runLast c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) xs0 xs3).2 E K
  generalize (runLast c (grid0.coords t) arg2 harg2 arg3 harg3 arg4 harg4 arg5 harg5 arg6 harg6 arg7 harg7 arg8 harg8 arg9 harg9 arg10 harg10 arg11 harg11 arg12 harg12 hc0 hc1 (blkX m c t) (blkW m c t) (blkO m c t) (blkS m c t) xs0 xs3).1 = L at hcar hrun hout
  iintro ⟨H0, H1, H2, H3, H4, HS0, HS1, HS2, HS3, HS4, HS5, Hk⟩
  iapply hrun
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%f4, H4⟩, HS0, HS1, HS2, HS3, HS4, HS5⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact hout f4
  iapply (held_of m c t.val ht arg7 arg8 arg9 arg10 arg11 arg12 _ _ hcar)
  isplitl [HS0]; · iexact HS0
  isplitl [HS1]; · iexact HS1
  isplitl [HS2]; · iexact HS2
  isplitl [HS3]; · iexact HS3
  isplitl [HS4]; · iexact HS4
  iexact HS5

end Cert.KernelIdeal.Attn

end
-- ==== Proof.Attn.Body.lean ====
/- The body's obligation at every point of the grid, and the launch: the run of the kernel read over the extended reals,
   with what its output array holds. -/
module

public import proofs.«01_k».proof.Proof.Attn.Points
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The invariant and the proof data -/

/-- Before the first point the launch's invariant; after point `n` the scratch buffers as `held` describes, and the
    generator register at some state. -/
def inv (c : Dev nD) : (n : ℕ) → n ≤ cfg0.N → sProp 𝕄
  | 0, _ => Pipeline.ΦA spec0 c
  | n + 1, hn => iprop(held m c n (Nat.lt_of_lt_of_eq hn N_0) scr0 scr1 scr2 scr3 scr4 scr5 ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(held m c n (Nat.lt_of_lt_of_eq hn N_0) scr0 scr1 scr2 scr3 scr4 scr5 ∗ (∃ r, prngReg c r)) := rfl

theorem pred_lt (n : ℕ) (h : n ≤ cfg0.N) (hz : n ≠ 0) : n - 1 < 8 := by
  have e : cfg0.N = 8 := N_0
  omega

theorem inv_pos (c : Dev nD) (n : ℕ) (h : n ≤ cfg0.N) (hz : n ≠ 0) :
    inv m c n h = iprop(held m c (n - 1) (pred_lt n h hz) scr0 scr1 scr2 scr3 scr4 scr5 ∗ (∃ r, prngReg c r)) := by
  cases n with
  | zero => exact absurd rfl hz
  | succ n => rfl

/-- At any point the invariant gives the scratch buffers at some contents. -/
theorem inv_any (c : Dev nD) (n : ℕ) (h : n ≤ cfg0.N) : inv m c n h ⊢ Pipeline.ΦA spec0 c := by
  by_cases hz : n = 0
  · rw [inv_zero m c n h hz]
    try exact Idealize.SL.BI.Entails.refl _
  · rw [inv_pos m c n h hz, launchInv_eq]
    unfold held
    iintro ⟨⟨%d0, %d3, -, HS0, HS1, HS2, HS3, HS4, HS5⟩, Hg⟩
    isplitl [HS0 HS1 HS2 HS3 HS4 HS5]
    · isplitl [HS0]
      · iexists _; iexact HS0
      isplitl [HS1]
      · iexact HS1
      isplitl [HS2]
      · iexact HS2
      isplitl [HS3]
      · iexists _; iexact HS3
      isplitl [HS4]
      · iexact HS4
      iexact HS5
    iexact Hg

/-- The proof data: the arrays as the region finds them; each input's buffer left at its block, the output's at the
    batch entry's block. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (stg0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (stg1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (stg2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (stg3 t) fullShare (iblk m c 3 t) := by
  unfold Dat.leavesExact; rw [show cfg0.idle 3 (cfg0.grid.coords t) = false from rfl, after3]

theorem leaves4_last (c : Dev nD) (t : Fin cfg0.N) (h : isLast (grid0.coords t)) :
    (dats m 0 c).leavesExact 4 t = owns (c : Thread nD τ) (stg4 t) fullShare (outBlk m c t) := by
  have hi : cfg0.idle 4 (cfg0.grid.coords t) = false := by
    show (!(k0_cond2 (grid0.coords t) == 1#1)) = false
    rw [h]; rfl
  unfold Dat.leavesExact; rw [hi, after4]

theorem leaves4_idle (c : Dev nD) (t : Fin cfg0.N) (h : ¬isLast (grid0.coords t)) :
    (dats m 0 c).leavesExact 4 t = iprop(∃ d, owns (c : Thread nD τ) (stg4 t) fullShare ((dats m 0 c).before 4 t d)) := by
  have hi : cfg0.idle 4 (cfg0.grid.coords t) = true := by
    show (!(k0_cond2 (grid0.coords t) == 1#1)) = true
    simpa using h
  refine Dat.leavesExact_idle _ 4 t hi ?_
  cases hf : (cfg0.win 4).flush t with
  | false => rfl
  | true => exact absurd ((isLast_iff t).mpr ((flush0_4 t).mp hf)) h

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  have ht : t.val < 8 := Nat.lt_of_lt_of_eq t.isLt N_0
  unfold bodyPre bodyPost bodyAt0
  simp only [before0, before1, before2, before3]
  rw [show (dats m 0 c).owesAt () t.succ = (dats m 0 c).owesAt () t.castSucc from rfl]
  rw [show (dats m 0 c).Φ t.succ = inv m c (t.val + 1) t.isLt from rfl, inv_succ, inv_castSucc, leaves0, leaves1, leaves2, leaves3]
  by_cases hc0 : isFirst (grid0.coords t)
  · have h0 : t.val % 4 = 0 := (isFirst_iff t).mp hc0
    have hc1 : ¬isLast (grid0.coords t) := fun h => by have := (isLast_iff t).mp h; omega
    rw [leaves4_idle m c t hc1]
    have hany := inv_any m c t.val (Nat.le_of_lt t.isLt)
    rw [launchInv_eq] at hany
    iintro ⟨HI, Ho, ⟨%e0, H0⟩, ⟨%e1, H1⟩, ⟨%e2, H2⟩, ⟨%e3, H3⟩, ⟨%e4, H4⟩⟩
    ihave HI := hany $$ HI
    icases HI with ⟨⟨⟨%xs0, HS0⟩, HS1, HS2, ⟨%xs3, HS3⟩, HS4, HS5⟩, Hg⟩
    iapply (point_first m c t ht _ _ _ _ _ _ _ _ _ _ _ _ _ _ _ _ _ _ _ _ _ _ ((dats m 0 c).before 4 t e4) xs0 xs3 Set.univ _ hc0 hc1 h0)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexists _; iexact H4
  · have h0 : t.val % 4 ≠ 0 := fun h => hc0 ((isFirst_iff t).mpr h)
    rw [inv_pos m c t.val _ (fun h => h0 (by rw [h]))]
    have hop := held_open m c (t.val - 1) (pred_lt t.val (Nat.le_of_lt t.isLt) (fun h => h0 (by rw [h]))) scr0 scr1 scr2 scr3 scr4 scr5
    by_cases hc1 : isLast (grid0.coords t)
    · rw [leaves4_last m c t hc1]
      iintro ⟨⟨HI, Hg⟩, Ho, ⟨%e0, H0⟩, ⟨%e1, H1⟩, ⟨%e2, H2⟩, ⟨%e3, H3⟩, ⟨%e4, H4⟩⟩
      ihave HI := hop $$ HI
      icases HI with ⟨%xs0, %xs3, %hcar, HS0, HS1, HS2, HS3, HS4, HS5⟩
      iapply (point_last m c t ht _ _ _ _ _ _ _ _ _ _ _ _ _ _ _ _ _ _ _ _ _ _ xs0 xs3 Set.univ _ hc0 hc1 ((isLast_iff t).mp hc1) _ hcar)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · rw [leaves4_idle m c t hc1]
      iintro ⟨⟨HI, Hg⟩, Ho, ⟨%e0, H0⟩, ⟨%e1, H1⟩, ⟨%e2, H2⟩, ⟨%e3, H3⟩, ⟨%e4, H4⟩⟩
      ihave HI := hop $$ HI
      icases HI with ⟨%xs0, %xs3, %hcar, HS0, HS1, HS2, HS3, HS4, HS5⟩
      iapply (point_mid m c t ht _ _ _ _ _ _ _ _ _ _ _ _ _ _ _ _ _ _ _ _ _ _ ((dats m 0 c).before 4 t e4) xs0 xs3 Set.univ _ hc0 hc1 h0 _ hcar)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The body table's row at point `t`'s slots. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl]
  exact inv_any m c _ _

/-! ## The launch -/

set_option backward.isDefEq.respectTransparency.types false in
theorem run_quiescent : θ_run defs (onTc (τ := τ) (main (F := Ideal))) (s₀ m ρ)
    (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
    (Q' := fun r => Pipeline.FramePost cfgs (dats m) 0 (V m) r ∧ r.2.sem = fun _ => 0) (hQ' := fun _ h => h)

theorem run_main : θ_run defs (onTc (τ := τ) (main (F := Ideal))) (s₀ m ρ) (Pipeline.FramePost cfgs (dats m) 0 (V m)) :=
  (θ_run defs _ _).mono (fun _ h => h.1) (run_quiescent m ρ)

/-- The kernel read over the extended reals runs, leaves its arguments as they were, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.Attn

end
-- ==== Proof.Attn.Host.lean ====
/- The arrays the host prepares for the launch, read at an index: the activations as they come, the scaled and interleaved
   projections, the output projection with its heads flattened, and the matrix that sums each head's squares. -/
module

public import proofs.«01_k».proof.Proof.Attn.Carry
public import Idealize.ShloMosaic.Lib.StableHlo.ReadAt
public import Idealize.ShloMosaic.Lib.Routing.OpsOne
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The arguments as vectors. -/
abbrev argX : FVec Ideal S2x2048x1024 .f32 := m ((c.tc : Thread nD τ).loc main_arg0)
abbrev argQ : FVec Ideal S1024x16x64 .f32 := m ((c.tc : Thread nD τ).loc main_arg2)
abbrev argV : FVec Ideal S1024x16x64 .f32 := m ((c.tc : Thread nD τ).loc main_arg3)
abbrev argO : FVec Ideal S16x64x1024 .f32 := m ((c.tc : Thread nD τ).loc main_arg4)

theorem host_x (b : Fin 2) (i : Fin 2048) (d : Fin 1024) : V m c main_v36 (ix3 b i d) = argX m c (ix3 b i d) := by
  unfold V
  after_reads_at

theorem host_o (k e : Fin 1024) : V m c main_v12 (ix3 0 k e) = argO m c (ix3 ⟨k.val / 64, by omega⟩ ⟨k.val % 64, by omega⟩ e) := by
  unfold V
  after_reads_at

/-- The scale of the queries, one eighth, as the program writes it. -/
abbrev scaleWord : EReal := Ideal.ofBits FTy.f32 0x3E000000#32

/-- Two indices with the same coordinates. -/
theorem ix3_congr {n0 n1 n2 : ℕ} {a a' : Fin n0} {b b' : Fin n1} {d d' : Fin n2} (ha : a = a') (hb : b.val = b'.val)
    (hd : d.val = d'.val) : ix3 a b d = ix3 a' b' d' := by
  rw [ha, Fin.ext hb, Fin.ext hd]

theorem host_q (p : Fin 4) (d : Fin 1024) (h : Fin 4) (x : Fin 64) :
    V m c main_v10 (ix3 p d (qCol h x)) = argQ m c (ix3 d ⟨4 * p.val + h.val, by omega⟩ x) * scaleWord := by
  have hj : (qCol h x).val = 64 * (2 * h.val) + x.val := rfl
  unfold V
  after_reads_at
  rw [dif_pos (by omega)]
  after_reads_at
  exact congrArg (· * scaleWord) (congrArg (argQ m c) (ix3_congr rfl (by dsimp only; omega) (by dsimp only; omega)))

theorem host_v (p : Fin 4) (d : Fin 1024) (h : Fin 4) (x : Fin 64) :
    V m c main_v10 (ix3 p d (vCol h x)) = argV m c (ix3 d ⟨4 * p.val + h.val, by omega⟩ x) := by
  have hj : (vCol h x).val = 64 * (2 * h.val + 1) + x.val := rfl
  unfold V
  after_reads_at
  rw [dif_neg (by omega)]
  after_reads_at
  exact congrArg (argV m c) (ix3_congr rfl (by dsimp only; omega) (by dsimp only; omega))

/-- Sixty-four ones set down a column, read at an entry. -/
theorem ones_at (x0 : FVec Ideal S512x128 .f32) (a b : IVec S1 32) (i j : ℕ) (ha : (a (ix1 0)).toInt = i) (hb : (b (ix1 0)).toInt = j)
    (r : Fin 512) (h : Fin 128) :
    Host.scatter scatter_S512x128_S2_S64_0_1_01_0 (fun _ b => b) x0 (concatenate S2 0 [⟨S1, a⟩, ⟨S1, b⟩] concatenates_S1_S1_S2_d0)
      (broadcastInDim S64 ![] bcast_S_S64 (constant (F := Ideal) S_ FTy.f32 0x3F800000#32)) (ix2 r h)
      = if h.val = j ∧ i ≤ r.val ∧ r.val < i + 64 then (1 : EReal) else x0 (ix2 r h) := by
  have e0 : concatenate S2 0 [⟨S1, a⟩, ⟨S1, b⟩] concatenates_S1_S1_S2_d0 (ix1 0) = a (ix1 0) := by pointwise
  have e1 : concatenate S2 0 [⟨S1, a⟩, ⟨S1, b⟩] concatenates_S1_S1_S2_d0 (ix1 1) = b (ix1 0) := by pointwise
  refine (Routing.scatter_column_signed scatter_S512x128_S2_S64_0_1_01_0 (by decide) rfl rfl rfl x0 _ _ (ix2 r h)).trans ?_
  refine if_congr ?_ ?_ rfl
  · rw [show (concatenate S2 0 [⟨S1, a⟩, ⟨S1, b⟩] concatenates_S1_S1_S2_d0 (ValueIdx.ix1 0)).toInt = i from (congrArg BitVec.toInt e0).trans ha,
      show (concatenate S2 0 [⟨S1, a⟩, ⟨S1, b⟩] concatenates_S1_S1_S2_d0 (ValueIdx.ix1 1)).toInt = j from (congrArg BitVec.toInt e1).trans hb]
    show (j : ℤ) = (h.val : ℤ) ∧ (i : ℤ) ≤ (r.val : ℤ) ∧ (r.val : ℤ) < (i : ℤ) + (64 : ℕ) ↔ _
    omega
  · pointwise

theorem host_s (r : Fin 512) (h : Fin 128) :
    V m c main_v35 (ix3 0 r h) = if h.val < 4 ∧ r.val / 128 = h.val ∧ r.val % 128 < 64 then (1 : EReal) else 0 := by
  unfold V
  after_reads_at
  refine (ones_at _ _ _ 384 3 ?_ ?_ r h).trans ?_
  · after_reads_at; rfl
  · after_reads_at; rfl
  refine (congrArg (ite _ _) (ones_at _ _ _ 256 2 ?_ ?_ r h)).trans ?_
  · after_reads_at; rfl
  · after_reads_at; rfl
  refine (congrArg (ite _ _) (congrArg (ite _ _) (ones_at _ _ _ 128 1 ?_ ?_ r h))).trans ?_
  · after_reads_at; rfl
  · after_reads_at; rfl
  refine (congrArg (ite _ _) (congrArg (ite _ _) (congrArg (ite _ _) (ones_at _ _ _ 0 0 ?_ ?_ r h)))).trans ?_
  · after_reads_at; rfl
  · after_reads_at; rfl
  pointwise
  split_ifs <;> first | rfl | omega

/-! ## The blocks -/

theorem index_x : ∀ t : Fin cfg0.N, win0_0.index t = ![t.val / 4, 0, 0] := by decide +kernel
theorem index_w : ∀ t : Fin cfg0.N, win0_1.index t = ![t.val % 4, 0, 0] := by decide +kernel
theorem index_o : ∀ t : Fin cfg0.N, win0_2.index t = ![0, 0, 0] := by decide +kernel
theorem index_s : ∀ t : Fin cfg0.N, win0_3.index t = ![0, 0, 0] := by decide +kernel
theorem index_y : ∀ t : Fin cfg0.N, win0_4.index t = ![t.val / 4, 0, 0] := by decide +kernel

theorem blk_x (t : Fin cfg0.N) (ht : t.val < 8) (i : Fin 2048) (d : Fin 1024) :
    blkX m c t (ix3 0 i d) = argX m c (ix3 (entry t.val ht) i d) := by
  refine Eq.trans ?_ (host_x m c (entry t.val ht) i d)
  show iblk m c 0 _ _ = _
  unfold iblk
  blk_simp
  refine congrArg (V m c main_v36) (funext fun a => Fin.ext ?_)
  match a with
  | ⟨0, _⟩ => blk_simp [index_x]; exact Nat.add_zero _
  | ⟨1, _⟩ => blk_simp [index_x]
  | ⟨2, _⟩ => blk_simp [index_x]

/-- Point `t`'s group. -/
def group (t : ℕ) : Fin 4 := ⟨t % 4, Nat.mod_lt _ (by decide)⟩

theorem blk_w (t : Fin cfg0.N) (d : Fin 1024) (j : Fin 512) :
    blkW m c t (ix3 0 d j) = V m c main_v10 (ix3 (group t.val) d j) := by
  refine Eq.trans ?_ rfl
  show iblk m c 1 _ _ = _
  unfold iblk
  blk_simp
  refine congrArg (V m c main_v10) (funext fun a => Fin.ext ?_)
  match a with
  | ⟨0, _⟩ => blk_simp [index_w]; exact Nat.add_zero _
  | ⟨1, _⟩ => blk_simp [index_w]
  | ⟨2, _⟩ => blk_simp [index_w]

theorem blk_q (t : Fin cfg0.N) (d : Fin 1024) (h : Fin 4) (x : Fin 64) :
    blkW m c t (ix3 0 d (qCol h x)) = argQ m c (ix3 d ⟨4 * (group t.val).val + h.val, by omega⟩ x) * scaleWord :=
  (blk_w m c t d _).trans (host_q m c (group t.val) d h x)

theorem blk_v (t : Fin cfg0.N) (d : Fin 1024) (h : Fin 4) (x : Fin 64) :
    blkW m c t (ix3 0 d (vCol h x)) = argV m c (ix3 d ⟨4 * (group t.val).val + h.val, by omega⟩ x) :=
  (blk_w m c t d _).trans (host_v m c (group t.val) d h x)

theorem blk_o (t : Fin cfg0.N) (k e : Fin 1024) :
    blkO m c t (ix3 0 k e) = argO m c (ix3 ⟨k.val / 64, by omega⟩ ⟨k.val % 64, by omega⟩ e) := by
  refine Eq.trans ?_ (host_o m c k e)
  show iblk m c 2 _ _ = _
  unfold iblk
  blk_simp
  refine congrArg (V m c main_v12) (funext fun a => Fin.ext ?_)
  match a with
  | ⟨0, _⟩ => blk_simp [index_o]
  | ⟨1, _⟩ => blk_simp [index_o]
  | ⟨2, _⟩ => blk_simp [index_o]

theorem blk_s (t : Fin cfg0.N) (r : Fin 512) (h : Fin 128) :
    blkS m c t (ix3 0 r h) = if h.val < 4 ∧ r.val / 128 = h.val ∧ r.val % 128 < 64 then (1 : EReal) else 0 := by
  refine Eq.trans ?_ (host_s m c r h)
  show iblk m c 3 _ _ = _
  unfold iblk
  blk_simp
  refine congrArg (V m c main_v35) (funext fun a => Fin.ext ?_)
  match a with
  | ⟨0, _⟩ => blk_simp [index_s]
  | ⟨1, _⟩ => blk_simp [index_s]
  | ⟨2, _⟩ => blk_simp [index_s]

/-! ## The result -/

/-- The result array: at a batch entry, a position and a channel, the gathered heads against the output projection. -/
def result : FVec Ideal S2x2048x1024 .f32 := fun y =>
  ∑ k : Fin 1024, gathered m c (y 0) (y 1) k * argO m c (ix3 ⟨k.val / 64, by omega⟩ ⟨k.val % 64, by omega⟩ (y 2))

end Cert.KernelIdeal.Attn

end
-- ==== Proof.Attn.Out.lean ====
/- The kernel's result array after the run. -/
module

public import proofs.«01_k».proof.Proof.Attn.Body
public import proofs.«01_k».proof.Proof.Attn.Host

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- Every index of a block of one batch entry, by its two free coordinates. -/
theorem ix3_of (y : S1x2048x1024.Idx) : ∃ (i : Fin 2048) (j : Fin 1024), y = ix3 0 i j := ⟨y 1, y 2, by
  funext a; apply Fin.ext
  match a with
  | ⟨0, _⟩ => show (y 0).val = 0; exact Nat.lt_one_iff.mp (y 0).isLt
  | ⟨1, _⟩ => rfl
  | ⟨2, _⟩ => rfl⟩

theorem out_at (t : Fin cfg0.N) (ht : t.val < 8) (i : Fin 2048) (j : Fin 1024) :
    outBlk m c t (ix3 0 i j) = result m c (ix3 (entry t.val ht) i j) := by
  show (∑ k, gathered m c (entry t.val _) i k * blkO m c t (ix3 0 k j))
    = ∑ k : Fin 1024, gathered m c (entry t.val ht) i k * argO m c (ix3 ⟨k.val / 64, _⟩ ⟨k.val % 64, _⟩ j)
  exact Finset.sum_congr rfl fun k _ => congrArg (gathered m c (entry t.val ht) i k * ·) (blk_o m c t k j)

theorem emb_y (t : Fin cfg0.N) (ht : t.val < 8) (i : Fin 2048) (j : Fin 1024) :
    ((cfg0.win 4).blk t).view.emb (ix3 0 i j) = ix3 (entry t.val ht) i j := by
  blk_simp
  refine funext fun a => Fin.ext ?_
  match a with
  | ⟨0, _⟩ => blk_simp [index_y]; exact Nat.add_zero _
  | ⟨1, _⟩ => blk_simp [index_y]
  | ⟨2, _⟩ => blk_simp [index_y]

theorem out_array : (dats m 0 c).arrAt 4 (cfgs 0).N = result m c := by
  refine (dats m 0 c).arrAt_eq_of_covers 4 _ (by decide +kernel) fun t hf y => ?_
  have ht : t.val < 8 := Nat.lt_of_lt_of_eq t.isLt N_0
  obtain ⟨i, j, rfl⟩ := ix3_of y
  blk_simp
  rw [after4]
  exact (out_at m c t ht i j).trans (congrArg (result m c) (emb_y t ht i j).symm)

/-- The kernel's run: the result array, and the arguments as they were. -/
theorem run_result : θ_run defs (onTc (τ := τ) (main (F := Ideal))) ⟨m, fun _ => 0, ρ⟩ (fun r => ∀ c : Dev nD,
      r.2.mem ((c.tc : Thread nD τ).loc main_v37) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 4).trans (out_array m c), h.2.1 c⟩) (θ_run_and (run_main m ρ) (frame m ρ))

end Cert.KernelIdeal.Attn

end
-- ==== Proof.Attn.Heads.lean ====
/- The gathered heads in terms of the arguments. -/
module

public import proofs.«01_k».proof.Proof.Attn.Host

@[expose] public section

set_option maxRecDepth 16384

noncomputable section

namespace Cert.KernelIdeal.Attn

open Cert.KernelIdeal Cert.KernelIdeal.Gen
open Idealize.ShloMosaic Idealize.ShloMosaic.TcCoe

/-- The queries that the kernel projects: the projection's weights scaled first. -/
def qScaled (X : FVec Ideal S2x2048x1024 .f32) (Q : FVec Ideal S1024x16x64 .f32) (b : Fin 2) (n : Fin 16) (t : Fin 2048) (x : Fin 64) : EReal :=
  ∑ d : Fin 1024, X (ix3 b t d) * (Q (ix3 d n x) * scaleWord)

/-- A projection. -/
def proj (X : FVec Ideal S2x2048x1024 .f32) (W : FVec Ideal S1024x16x64 .f32) (b : Fin 2) (n : Fin 16) (t : Fin 2048) (x : Fin 64) : EReal :=
  ∑ d : Fin 1024, X (ix3 b t d) * W (ix3 d n x)

variable (m : (ℓ : Loc nD τ sig) → Buf (Elt Ideal) ℓ) (c : Dev nD)

/-- A sum over the columns that keeps those of head `h`'s queries. -/
theorem sum_selected (f : Fin 512 → EReal) (h : Fin 4) :
    (∑ r : Fin 512, f r * (if h.val < 4 ∧ r.val / 128 = h.val ∧ r.val % 128 < 64 then (1 : EReal) else 0)) = ∑ x : Fin 64, f (qCol h x) := by
  have e : ∀ r : Fin 512, f r * (if h.val < 4 ∧ r.val / 128 = h.val ∧ r.val % 128 < 64 then (1 : EReal) else 0)
      = if r ∈ Finset.univ.map ⟨qCol h, fun x y hxy => by
          have := congrArg Fin.val hxy; simp only [qCol] at this; exact Fin.ext (by omega)⟩ then f r else 0 := fun r => by
    rw [mul_ite, mul_one, mul_zero]
    refine if_congr ?_ rfl rfl
    simp only [Finset.mem_map, Finset.mem_univ, true_and, Function.Embedding.coeFn_mk]
    constructor
    · intro hr
      exact ⟨⟨r.val % 128, by omega⟩, Fin.ext (by show 64 * (2 * h.val) + r.val % 128 = r.val; omega)⟩
    · rintro ⟨x, rfl⟩
      have := h.isLt
      refine ⟨by omega, ?_, ?_⟩
      · show (64 * (2 * h.val) + x.val) / 128 = h.val; omega
      · show (64 * (2 * h.val) + x.val) % 128 < 64; omega
  rw [Finset.sum_congr rfl fun r _ => e r, Finset.sum_ite_mem, Finset.univ_inter, Finset.sum_map]
  rfl

theorem head_lt (t : ℕ) (h : Fin 4) : 4 * (group t).val + h.val < 16 := by omega

section Point

variable (t : Fin cfg0.N) (ht : t.val < 8)

theorem pay8_q (h : Fin 4) (n : Fin 16) (hn : n.val = 4 * (t.val % 4) + h.val) (s : Fin 2048) (x : Fin 64) :
    k0_pay8 (blkX m c t) (blkW m c t) (ix2 s (qCol h x)) = qScaled (argX m c) (argQ m c) (entry t.val ht) n s x := by
  rw [proj_apply]
  obtain rfl : n = ⟨4 * (group t.val).val + h.val, head_lt t.val h⟩ := Fin.ext hn
  exact Finset.sum_congr rfl fun d _ => congrArg₂ (· * ·) (blk_x m c t ht s d) (blk_q m c t d h x)

theorem pay8_v (h : Fin 4) (n : Fin 16) (hn : n.val = 4 * (t.val % 4) + h.val) (s : Fin 2048) (x : Fin 64) :
    k0_pay8 (blkX m c t) (blkW m c t) (ix2 s (vCol h x)) = proj (argX m c) (argV m c) (entry t.val ht) n s x := by
  rw [proj_apply]
  obtain rfl : n = ⟨4 * (group t.val).val + h.val, head_lt t.val h⟩ := Fin.ext hn
  exact Finset.sum_congr rfl fun d _ => congrArg₂ (· * ·) (blk_x m c t ht s d) (blk_v m c t d h x)

theorem pay9_s (h : Fin 4) (n : Fin 16) (hn : n.val = 4 * (t.val % 4) + h.val) (s : Fin 2048) :
    k0_pay9 (blkX m c t) (blkW m c t) (blkS m c t) (ix2 s ⟨h.val, by omega⟩)
      = ∑ x, qScaled (argX m c) (argQ m c) (entry t.val ht) n s x * qScaled (argX m c) (argQ m c) (entry t.val ht) n s x := by
  rw [sums_apply]
  refine (Finset.sum_congr rfl fun r _ => congrArg _ (blk_s m c t r _)).trans ?_
  refine (sum_selected (fun r => k0_pay8 (blkX m c t) (blkW m c t) (ix2 s r) * k0_pay8 (blkX m c t) (blkW m c t) (ix2 s r)) h).trans ?_
  exact Finset.sum_congr rfl fun x _ => congrArg₂ (· * ·) (pay8_q m c t ht h n hn s x) (pay8_q m c t ht h n hn s x)

/-- One head, from its scaled queries and its values. -/
def headAt (X : FVec Ideal S2x2048x1024 .f32) (Q W : FVec Ideal S1024x16x64 .f32) (b : Fin 2) (n : Fin 16) : Fin 2048 → Fin 64 → EReal :=
  headVal (qScaled X Q b n) (proj X W b n) (fun t => ∑ x, qScaled X Q b n t x * qScaled X Q b n t x)

theorem headOf_eq (h : Fin 4) (n : Fin 16) (hn : n.val = 4 * (t.val % 4) + h.val) :
    headOf m c t h = headAt (argX m c) (argQ m c) (argV m c) (entry t.val ht) n := by
  unfold headOf slotVal headAt
  rw [show (fun s x => k0_pay8 (blkX m c t) (blkW m c t) (ix2 s (qCol h x))) = qScaled (argX m c) (argQ m c) (entry t.val ht) n from
      funext fun s => funext fun x => pay8_q m c t ht h n hn s x,
    show (fun s x => k0_pay8 (blkX m c t) (blkW m c t) (ix2 s (vCol h x))) = proj (argX m c) (argV m c) (entry t.val ht) n from
      funext fun s => funext fun x => pay8_v m c t ht h n hn s x]
  exact congrArg _ (funext fun s => pay9_s m c t ht h n hn s)

end Point

theorem gathered_eq (b : Fin 2) (s : Fin 2048) (k : Fin 1024) :
    gathered m c b s k = headAt (argX m c) (argQ m c) (argV m c) b ⟨k.val / 64, by omega⟩ s ⟨k.val % 64, by omega⟩ := by
  have ht : (pt (4 * b.val + k.val / 256) (by omega)).val < 8 := by show 4 * b.val + k.val / 256 < 8; omega
  unfold gathered
  rw [headOf_eq m c _ ht _ ⟨k.val / 64, by omega⟩ (by
    show k.val / 64 = 4 * ((4 * b.val + k.val / 256) % 4) + k.val % 256 / 64; omega)]
  rw [show entry (pt (4 * b.val + k.val / 256) (by omega)).val ht = b from Fin.ext (by show (4 * b.val + k.val / 256) / 4 = b.val; omega)]

end Cert.KernelIdeal.Attn

end
-- ==== Proof.Attn.Core.lean ====
/- One head: the kernel's sums with the diagonal's term taken off, and the reference's softmax with the diagonal at −∞. -/
module

public import proofs.«01_k».proof.Proof.Attn.Vals

@[expose] public section

set_option maxRecDepth 16384

noncomputable section

namespace Cert.KernelIdeal.Attn

open Idealize.ShloMosaic

/-- The value of the floor under the scaled squared norms. -/
def floorReal : ℝ := 10141205 / 2 ^ 103
/-- The value of the reference's floor under the norms. -/
def normReal : ℝ := 9223372 / 2 ^ 63

theorem floorReal_pos : 0 < floorReal := by unfold floorReal; positivity
theorem normReal_pos : 0 < normReal := by unfold normReal; positivity

theorem normReal_sq : normReal ^ 2 ≤ 64 * floorReal := by unfold normReal floorReal; norm_num

theorem floor_word : floorWord = ((floorReal : ℝ) : EReal) := by
  unfold floorWord floorReal
  simp [Ideal.ofBits, Ideal.ieee, -EReal.coe_mul]; norm_num

theorem floor64_word : Ideal.ofBits FTy.f32 0x1A9ABE15#32 = ((64 * floorReal : ℝ) : EReal) := by
  unfold floorReal
  simp [Ideal.ofBits, Ideal.ieee, -EReal.coe_mul]; norm_num

theorem norm_word : Ideal.ofBits FTy.f32 0x2B8CBCCC#32 = ((normReal : ℝ) : EReal) := by
  unfold normReal
  simp [Ideal.ofBits, Ideal.ieee, -EReal.coe_mul]; norm_num

theorem eighth_word : Ideal.ofBits FTy.f32 0x3E000000#32 = (((1 / 8 : ℝ)) : EReal) := by
  simp [Ideal.ofBits, Ideal.ieee, -EReal.coe_mul]; norm_num

/-- A sum of reals, read in the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A row's squared norm. -/
def sq (q : Fin 2048 → Fin 64 → ℝ) (t : Fin 2048) : ℝ := ∑ x, q t x * q t x

/-- The normalised keys. -/
def keyReal (q : Fin 2048 → Fin 64 → ℝ) (t : Fin 2048) (x : Fin 64) : ℝ := q t x / √(sq q t)

/-- The logits. -/
def logit (q : Fin 2048 → Fin 64 → ℝ) (i t : Fin 2048) : ℝ := ∑ x, q i x / 8 * keyReal q t x

section Head

variable (q v : Fin 2048 → Fin 64 → ℝ) (hq : ∀ t, sq q t = 0 ∨ 64 * floorReal ≤ sq q t)

theorem zero_of_sq (t : Fin 2048) (h : sq q t = 0) (x : Fin 64) : q t x = 0 := by
  have := (Finset.sum_eq_zero_iff_of_nonneg (fun x _ => mul_self_nonneg (q t x))).1 h x (Finset.mem_univ x)
  exact mul_self_eq_zero.1 this

theorem scaled_sq (t : Fin 2048) : ∑ x, ((q t x / 8 : ℝ) : EReal) * ((q t x / 8 : ℝ) : EReal) = ((sq q t / 64 : ℝ) : EReal) := by
  simp only [← EReal.coe_mul]
  rw [sum_coe]
  congr 1
  unfold sq
  rw [Finset.sum_div]
  exact Finset.sum_congr rfl fun x _ => by ring

include hq in
theorem rsqrt_floor (t : Fin 2048) (h : sq q t ≠ 0) :
    Ideal.rsqrt (max ((sq q t / 64 : ℝ) : EReal) floorWord) = ((8 / √(sq q t) : ℝ) : EReal) := by
  have h' := (hq t).resolve_left h
  have p := floorReal_pos
  have hp : 0 < sq q t := by linarith
  rw [floor_word, max_eq_left (EReal.coe_le_coe_iff.2 (by linarith)), Ideal.rsqrt_coe, if_neg (by linarith [hp] : ¬ sq q t / 64 < 0),
    if_neg (by positivity)]
  congr 1
  rw [Real.sqrt_div' _ (by norm_num), show (64 : ℝ) = 8 ^ 2 by norm_num, Real.sqrt_sq (by norm_num), inv_div]

include hq in
/-- The kernel's normalised keys. -/
theorem key_kernel (t : Fin 2048) (x : Fin 64) :
    ((q t x / 8 : ℝ) : EReal) * Ideal.rsqrt (max ((sq q t / 64 : ℝ) : EReal) floorWord) = ((keyReal q t x : ℝ) : EReal) := by
  by_cases h : sq q t = 0
  · unfold keyReal
    rw [zero_of_sq q t h x]; simp
  · rw [rsqrt_floor q hq t h, ← EReal.coe_mul]
    congr 1
    unfold keyReal; ring

include hq in
/-- The kernel's own logit of the diagonal. -/
theorem diag_kernel (t : Fin 2048) :
    ((sq q t / 64 : ℝ) : EReal) * Ideal.rsqrt (max ((sq q t / 64 : ℝ) : EReal) floorWord) = ((logit q t t : ℝ) : EReal) := by
  by_cases h : sq q t = 0
  · have e : logit q t t = 0 := Finset.sum_eq_zero fun x _ => by rw [zero_of_sq q t h x]; simp
    rw [e, h]; simp
  · rw [rsqrt_floor q hq t h, ← EReal.coe_mul]
    congr 1
    unfold logit keyReal
    have : ∀ x, q t x / 8 * (q t x / √(sq q t)) = q t x * q t x * (1 / 8 / √(sq q t)) := fun x => by ring
    rw [Finset.sum_congr rfl fun x _ => this x, ← Finset.sum_mul]
    show _ = sq q t * _
    ring

include hq in
/-- The reference's normalised keys. -/
theorem key_reference (t : Fin 2048) (x : Fin 64) :
    Ideal.div ((q t x : ℝ) : EReal) (max (Ideal.sqrt ((sq q t : ℝ) : EReal)) ((normReal : ℝ) : EReal)) = ((keyReal q t x : ℝ) : EReal) := by
  have hs : 0 ≤ sq q t := Finset.sum_nonneg fun x _ => mul_self_nonneg (q t x)
  have hc := normReal_pos
  have e : max (Ideal.sqrt ((sq q t : ℝ) : EReal)) ((normReal : ℝ) : EReal) = ((max (√(sq q t)) normReal : ℝ) : EReal) := by
    rw [Ideal.sqrt_coe, if_neg (not_lt.2 hs)]
    exact (EReal.coe_strictMono.monotone.map_max).symm
  rw [e, Ideal.div_coe (ne_of_gt (lt_of_lt_of_le hc (le_max_right _ _))), ← EReal.coe_mul]
  congr 1
  unfold keyReal
  by_cases h : sq q t = 0
  · rw [zero_of_sq q t h x]; simp
  · have h' := (hq t).resolve_left h
    rw [max_eq_left (Real.le_sqrt_of_sq_le (normReal_sq.trans h'))]
    ring

/-- The kernel's head over the reals. -/
def headReal (i : Fin 2048) (j : Fin 64) : ℝ :=
  (∑ t, if i = t then 0 else Real.exp (logit q i t) * v t j) * (1 / ∑ t, if i = t then 0 else Real.exp (logit q i t))

theorem sum_off (f : Fin 2048 → ℝ) (i : Fin 2048) : ∑ t, f t - f i = ∑ t, if i = t then 0 else f t := by
  have : ∀ t, (if i = t then 0 else f t) = f t - if i = t then f t else 0 := fun t => by split <;> simp
  rw [Finset.sum_congr rfl fun t _ => this t, Finset.sum_sub_distrib, Finset.sum_ite_eq, if_pos (Finset.mem_univ i)]

/-- Another row. -/
theorem exists_other (i : Fin 2048) : ∃ t : Fin 2048, i ≠ t := by
  by_cases h : i = 0
  · exact ⟨1, by rw [h]; decide⟩
  · exact ⟨0, h⟩

theorem off_pos (f : Fin 2048 → ℝ) (hf : ∀ t, 0 < f t) (i : Fin 2048) : 0 < ∑ t, if i = t then 0 else f t := by
  obtain ⟨t, ht⟩ := exists_other i
  refine Finset.sum_pos' (fun t _ => ?_) ⟨t, Finset.mem_univ t, ?_⟩
  · split
    · exact le_rfl
    · exact (hf t).le
  · rw [if_neg ht]; exact hf t

include hq in
theorem head_kernel (i : Fin 2048) (j : Fin 64) :
    headVal (fun t x => ((q t x / 8 : ℝ) : EReal)) (fun t x => ((v t x : ℝ) : EReal))
      (fun t => ∑ x, ((q t x / 8 : ℝ) : EReal) * ((q t x / 8 : ℝ) : EReal)) i j = ((headReal q v i j : ℝ) : EReal) := by
  unfold headVal
  simp only [scaled_sq]
  simp only [key_kernel q hq, diag_kernel q hq]
  simp only [← EReal.coe_mul, sum_coe]
  have hl : ∀ t, (∑ x, q i x / 8 * keyReal q t x) = logit q i t := fun t => rfl
  simp only [hl, Ideal.exp_coe, mul_one, ← EReal.coe_mul, sum_coe, ← EReal.coe_sub]
  have e1 : (∑ t, Real.exp (logit q i t) * v t j) - v i j * Real.exp (logit q i i) = ∑ t, if i = t then 0 else Real.exp (logit q i t) * v t j := by
    rw [← sum_off (fun t => Real.exp (logit q i t) * v t j) i]; ring
  have e2 := sum_off (fun t => Real.exp (logit q i t)) i
  rw [e1, e2, Ideal.div_coe (off_pos (fun t => Real.exp (logit q i t)) (fun t => Real.exp_pos _) i).ne', one_mul, ← EReal.coe_mul]
  rfl

/-- The reference's logits of a row. -/
def rowLogit (i t : Fin 2048) : EReal := if i = t then ⊥ else ((logit q i t : ℝ) : EReal)

/-- A row's largest logit is real. -/
theorem largest_real (i : Fin 2048) : ∃ M : ℝ, (Finset.univ : Finset (Fin 2048)).fold max ⊥ (rowLogit q i) = ((M : ℝ) : EReal) := by
  have e : (Finset.univ : Finset (Fin 2048)).fold max ⊥ (rowLogit q i) = Finset.univ.sup (rowLogit q i) := rfl
  rw [e]
  obtain ⟨t, -, ht⟩ := Finset.exists_mem_eq_sup Finset.univ Finset.univ_nonempty (rowLogit q i)
  obtain ⟨u, hu⟩ := exists_other i
  have hle : rowLogit q i u ≤ rowLogit q i t := ht ▸ Finset.le_sup (f := rowLogit q i) (Finset.mem_univ u)
  by_cases h : i = t
  · exfalso
    unfold rowLogit at hle
    rw [if_neg hu, if_pos h] at hle
    exact absurd (le_bot_iff.1 hle) (EReal.coe_ne_bot _)
  · exact ⟨logit q i t, ht.trans (if_neg h)⟩

theorem head_reference (i : Fin 2048) (j : Fin 64) (g : EReal) (hg : g = (Finset.univ : Finset (Fin 2048)).fold max ⊥ (rowLogit q i)) :
    ∑ t, ((v t j : ℝ) : EReal) * Ideal.div (Ideal.exp (rowLogit q i t - g)) (∑ t, Ideal.exp (rowLogit q i t - g))
      = ((headReal q v i j : ℝ) : EReal) := by
  obtain ⟨M, hM⟩ := largest_real q i
  rw [hM] at hg
  subst hg
  have he : ∀ t, Ideal.exp (rowLogit q i t - ((M : ℝ) : EReal)) = (((if i = t then 0 else Real.exp (logit q i t)) * Real.exp (-M) : ℝ) : EReal) := fun t => by
    unfold rowLogit
    split
    · rw [EReal.bot_sub, Ideal.exp_bot, zero_mul, EReal.coe_zero]
    · rw [← EReal.coe_sub, Ideal.exp_coe, ← Real.exp_add, sub_eq_add_neg]
  have hp := off_pos (fun t => Real.exp (logit q i t)) (fun t => Real.exp_pos _) i
  have hM' := Real.exp_pos (-M)
  simp only [he, sum_coe]
  rw [← Finset.sum_mul Finset.univ (fun t => if i = t then 0 else Real.exp (logit q i t)) (Real.exp (-M))]
  simp only [Ideal.div_coe (mul_pos hp hM').ne', ← EReal.coe_mul, sum_coe]
  congr 1
  unfold headReal
  refine Eq.trans (Finset.sum_congr rfl fun t _ => ?_) (Finset.sum_mul _ _ _).symm
  split
  · simp
  · field_simp

end Head

end Cert.KernelIdeal.Attn
-- ==== Proof.Attn.Ref.lean ====
/- The reference's result, read at an index. -/
module

public import proofs.«01_k».proof.Proof.Gen.ReferenceIdeal
public import proofs.«01_k».proof.Proof.Gen.ReferenceIdeal.Run
public import Idealize.ShloMosaic.Lib.Pointwise
public import Idealize.ShloMosaic.PureOps.Ideal.Laws

@[expose] public section

set_option maxRecDepth 16384

noncomputable section

namespace Cert.ReferenceIdeal.Attn

open Cert.ReferenceIdeal Cert.ReferenceIdeal.Gen
open Idealize.ShloMosaic Idealize.ShloMosaic.TcCoe

/-- A projection of the tokens to the heads. -/
def rProj (X : FVec Ideal S2x2048x1024 .f32) (W : FVec Ideal S1024x16x64 .f32) : FVec Ideal S2x2048x16x64 .f32 :=
  Host.dotGeneral dot_S2x2048x1024_S1024x16x64_S2x2048x16x64_2_0_01_12_n_n none X W

/-- The keys: the queries over their norms. -/
def rKey (q : FVec Ideal S2x2048x16x64 .f32) : FVec Ideal S2x2048x16x64 .f32 :=
  Host.divf q (broadcastInDim S2x2048x16x64 ![0, 1, 2, 3] bcast_S2x2048x16x1_S2x2048x16x64_0_1_2_3 (maximumf (Host.sqrt (broadcastInDim S2x2048x16x1 ![0, 1, 2] bcast_S2x2048x16_S2x2048x16x1_0_1_2 (Host.reduceAdd (mulf q q) (constant S_ .f32 0x00000000#32) reducesTo_S2x2048x16x64_S2x2048x16_d3 h_S_))) (broadcastInDim S2x2048x16x1 ![] bcast_S_S2x2048x16x1 (constant S_ .f32 0x2B8CBCCC#32))))

/-- The logits, the diagonal's at −∞. -/
def rLogits (q key : FVec Ideal S2x2048x16x64 .f32) (mask : IVec S2x2048 1) : FVec Ideal S2x16x2048x2048 .f32 :=
  select (broadcastInDim S2x16x2048x2048 ![0, 1, 2, 3] bcast_S1x1x2048x2048_S2x16x2048x2048_0_1_2_3 (broadcastInDim S1x1x2048x2048 ![2, 3] bcast_S2048x2048_S1x1x2048x2048_2_3 (cmpi .eq (addi (iotaInDim S2048x2048 32 0) (broadcastInDim S2048x2048 ![] bcast_S_S2048x2048 (constantI S_ 32 0#32))) (iotaInDim S2048x2048 32 1)))) (broadcastInDim S2x16x2048x2048 ![] bcast_S_S2x16x2048x2048 (id (constant S_ .f32 0xFF800000#32))) (addf (Host.dotGeneral dot_S2x2048x16x64_S2x2048x16x64_S2x16x2048x2048_3_3_1_1_02_02 none (mulf q (broadcastInDim S2x2048x16x64 ![] bcast_S_S2x2048x16x64 (constant S_ .f32 0x3E000000#32))) key) (broadcastInDim S2x16x2048x2048 ![0, 1, 2, 3] bcast_S2x1x1x2048_S2x16x2048x2048_0_1_2_3 (mulf (broadcastInDim S2x1x1x2048 ![0, 3] bcast_S2x2048_S2x1x1x2048_0_3 (uitofp .f32 mask)) (broadcastInDim S2x1x1x2048 ![] bcast_S_S2x1x1x2048 (constant S_ .f32 0xCE6E6B28#32)))))

/-- The logits' rows' largest. -/
def rMax (l : FVec Ideal S2x16x2048x2048 .f32) : FVec Ideal S2x16x2048 .f32 :=
  Host.reduce FloatOps.maximumf l (constant S_ .f32 0xFF800000#32) reducesTo_S2x16x2048x2048_S2x16x2048_d3 h_S_

/-- The exponentials of the logits, each row's largest taken off. -/
def rExp (l : FVec Ideal S2x16x2048x2048 .f32) (g : FVec Ideal S2x16x2048 .f32) : FVec Ideal S2x16x2048x2048 .f32 :=
  Host.exp (subf l (broadcastInDim S2x16x2048x2048 ![0, 1, 2, 3] bcast_S2x16x2048x1_S2x16x2048x2048_0_1_2_3 (broadcastInDim S2x16x2048x1 ![0, 1, 2] bcast_S2x16x2048_S2x16x2048x1_0_1_2 (maximumf (broadcastInDim S2x16x2048 ![] bcast_S_S2x16x2048 (constant S_ .f32 0xFF800000#32)) g))))

/-- The weights: the exponentials over their rows' sums. -/
def rWeight (e : FVec Ideal S2x16x2048x2048 .f32) : FVec Ideal S2x16x2048x2048 .f32 :=
  Host.divf e (broadcastInDim S2x16x2048x2048 ![0, 1, 2, 3] bcast_S2x16x2048x1_S2x16x2048x2048_0_1_2_3 (broadcastInDim S2x16x2048x1 ![0, 1, 2] bcast_S2x16x2048_S2x16x2048x1_0_1_2 (Host.reduceAdd e (constant S_ .f32 0x00000000#32) reducesTo_S2x16x2048x2048_S2x16x2048_d3 h_S_)))

/-- The weighted values. -/
def rHeads (v : FVec Ideal S2x2048x16x64 .f32) (w : FVec Ideal S2x16x2048x2048 .f32) : FVec Ideal S2x2048x16x64 .f32 :=
  transpose S2x2048x16x64 [0, 3, 1, 2] (Host.dotGeneral dot_S2x2048x16x64_S2x16x2048x2048_S2x16x64x2048_1_3_3_2_02_01 none v w) transposes_S2x16x64x2048_S2x2048x16x64_0_3_1_2

/-- The output projection. -/
def rOut (h : FVec Ideal S2x2048x16x64 .f32) (O : FVec Ideal S16x64x1024 .f32) : FVec Ideal S2x2048x1024 .f32 :=
  Host.dotGeneral dot_S2x2048x16x64_S16x64x1024_S2x2048x1024_32_10_01_2_n_n none h O

theorem rProj_apply (X : FVec Ideal S2x2048x1024 .f32) (W : FVec Ideal S1024x16x64 .f32) (b : Fin 2) (t : Fin 2048) (n : Fin 16) (x : Fin 64) :
    rProj X W (ix4 b t n x) = ∑ d : Fin 1024, X (ix3 b t d) * W (ix3 d n x) := by
  unfold rProj
  pointwise

theorem rKey_apply (q : FVec Ideal S2x2048x16x64 .f32) (b : Fin 2) (t : Fin 2048) (n : Fin 16) (x : Fin 64) :
    rKey q (ix4 b t n x) = Ideal.div (q (ix4 b t n x))
      (max (Ideal.sqrt (∑ x : Fin 64, q (ix4 b t n x) * q (ix4 b t n x))) (Ideal.ofBits FTy.f32 0x2B8CBCCC#32)) := by
  unfold rKey
  pointwise

/-- The word of −∞. -/
theorem word_bot : Ideal.ofBits FTy.f32 0xFF800000#32 = (⊥ : EReal) := by
  simp [Ideal.ofBits, Ideal.ieee]

theorem sel_diagonal (s t : Fin 2048) (a b : EReal) :
    Scalar.select (IntOp.cmpi CmpIPredicate.eq (IntOp.addi (BitVec.ofNat 32 s.val) 0#32) (BitVec.ofNat 32 t.val)) a b = if s = t then a else b := by
  have e : IntOp.cmpi CmpIPredicate.eq (IntOp.addi (BitVec.ofNat 32 s.val) 0#32) (BitVec.ofNat 32 t.val) = BitVec.ofBool (decide (s = t)) := by
    show BitVec.ofBool (BitVec.ofNat 32 s.val + 0#32 == BitVec.ofNat 32 t.val) = _
    congr 1
    rw [BitVec.add_zero, Bool.eq_iff_iff, beq_iff_eq, decide_eq_true_iff]
    constructor
    · intro h
      have := congrArg BitVec.toNat h
      simp only [BitVec.toNat_ofNat] at this
      exact Fin.ext (by omega)
    · rintro rfl; rfl
  rw [e]
  by_cases h : s = t
  · rw [if_pos h, decide_eq_true h]; rfl
  · rw [if_neg h, decide_eq_false h]; rfl

theorem rLogits_apply (q key : FVec Ideal S2x2048x16x64 .f32) (mask : IVec S2x2048 1) (b : Fin 2) (n : Fin 16) (s t : Fin 2048)
    (hm : mask (ix2 b t) = 0#1) :
    rLogits q key mask (ix4 b n s t) = if s = t then ⊥ else
      ∑ x : Fin 64, (q (ix4 b s n x) * Ideal.ofBits FTy.f32 0x3E000000#32) * key (ix4 b t n x) := by
  unfold rLogits
  pointwise
  refine (sel_diagonal s t _ _).trans ?_
  refine if_congr Iff.rfl word_bot ?_
  rw [hm]
  have z : (FloatOps.uitofp (F := Ideal) FTy.f32 (0#1) : EReal) = 0 := by
    show (((0#1 : BitVec 1).toNat : ℝ) : EReal) = 0
    simp
  rw [z, zero_mul, add_zero]

theorem rExp_apply (l : FVec Ideal S2x16x2048x2048 .f32) (g : FVec Ideal S2x16x2048 .f32) (b : Fin 2) (n : Fin 16) (s t : Fin 2048) :
    rExp l g (ix4 b n s t) = Ideal.exp (l (ix4 b n s t) - g (ix3 b n s)) := by
  unfold rExp
  pointwise
  rw [word_bot, max_eq_right bot_le]

/-- The largest along the last of four axes. -/
theorem largest_last {n0 n1 n2 n3 : ℕ} (l : (⟨4, ![n0, n1, n2, n3]⟩ : Shape).Idx → EReal) (init : S_.Idx → EReal)
    (h : (⟨4, ![n0, n1, n2, n3]⟩ : Shape).ReducesTo [3] ⟨3, ![n0, n1, n2]⟩) (hu : 0 < S_.numel) (b : Fin n0) (n : Fin n1) (s : Fin n2) :
    Host.reduce (max : EReal → EReal → EReal) l init h hu (ix3 b n s)
      = (Finset.univ : Finset (Fin n3)).fold max (init (Shape.Idx.first hu)) (fun t => l (ix4 b n s t)) := by
  rw [Host.reduce_eq_fold, Shape.ReducesTo.fold_fiber_r4_a3]
  rfl

theorem rMax_apply (l : FVec Ideal S2x16x2048x2048 .f32) (b : Fin 2) (n : Fin 16) (s : Fin 2048) :
    rMax l (ix3 b n s) = (Finset.univ : Finset (Fin 2048)).fold max ⊥ (fun t => l (ix4 b n s t)) := by
  unfold rMax
  rw [← word_bot]
  exact largest_last _ _ _ _ _ _ _

theorem rWeight_apply (e : FVec Ideal S2x16x2048x2048 .f32) (b : Fin 2) (n : Fin 16) (s t : Fin 2048) :
    rWeight e (ix4 b n s t) = Ideal.div (e (ix4 b n s t)) (∑ t : Fin 2048, e (ix4 b n s t)) := by
  unfold rWeight
  pointwise

theorem rHeads_apply (v : FVec Ideal S2x2048x16x64 .f32) (w : FVec Ideal S2x16x2048x2048 .f32) (b : Fin 2) (s : Fin 2048) (n : Fin 16) (x : Fin 64) :
    rHeads v w (ix4 b s n x) = ∑ t : Fin 2048, v (ix4 b t n x) * w (ix4 b n s t) := by
  unfold rHeads
  pointwise

theorem rOut_apply (h : FVec Ideal S2x2048x16x64 .f32) (O : FVec Ideal S16x64x1024 .f32) (b : Fin 2) (s : Fin 2048) (e : Fin 1024) :
    rOut h O (ix3 b s e) = ∑ x : Fin 64, ∑ n : Fin 16, h (ix4 b s n x) * O (ix3 n x e) := by
  unfold rOut
  pointwise

theorem res_eq (m : (ℓ : Loc nD τ sig) → Buf (Elt Ideal) ℓ) (c : Dev nD) (X : FVec Ideal S2x2048x1024 .f32) (mask : IVec S2x2048 1)
    (Q V : FVec Ideal S1024x16x64 .f32) (O : FVec Ideal S16x64x1024 .f32)
    (h0 : m ((c.tc : Thread nD τ).loc main_arg0) = X) (h1 : m ((c.tc : Thread nD τ).loc main_arg1) = mask)
    (h2 : m ((c.tc : Thread nD τ).loc main_arg2) = Q) (h3 : m ((c.tc : Thread nD τ).loc main_arg3) = V)
    (h4 : m ((c.tc : Thread nD τ).loc main_arg4) = O) :
    Value.res_out0 m c = rOut (rHeads (rProj X V) (rWeight (rExp (rLogits (rProj X Q) (rKey (rProj X Q)) mask) (rMax (rLogits (rProj X Q) (rKey (rProj X Q)) mask))))) O := by
  subst h0 h1 h2 h3 h4
  rfl

end Cert.ReferenceIdeal.Attn
-- ==== Proof.Attn.Pre.lean ====
/- What the precondition states of the arguments. -/
module

public import proofs.«01_k».proof.Pre_in_range
public import Idealize.ShloMosaic.Lib.Pointwise
public import Idealize.ShloMosaic.Lib.ReduceAll
public import Idealize.ShloMosaic.PureOps.Ideal.Laws

@[expose] public section

set_option maxRecDepth 16384

noncomputable section

namespace Cert.Pre_in_range.Attn

open Cert.Pre_in_range Cert.Pre_in_range.Facts
open Idealize.ShloMosaic

variable [Facts]

/-- The word of +∞. -/
theorem word_top : Ideal.ofBits FTy.f32 0x7F800000#32 = (⊤ : EReal) := by
  simp [Ideal.ofBits, Ideal.ieee]

theorem ofBool_eq_one {b : Bool} : BitVec.ofBool b = 1#1 → b = true := by cases b <;> decide

instance : Subsingleton S_.Idx := ⟨fun a b => funext fun d => d.elim0⟩

/-- A number whose magnitude is below +∞ is real. -/
theorem finite_of_abs (x : EReal) (h : Ideal.cmp .olt (max x (-x)) ⊤ = 1#1) : x ≠ ⊥ ∧ x ≠ ⊤ := by
  have h' := of_decide_eq_true (ofBool_eq_one h)
  constructor
  · rintro rfl; exact absurd h' (by simp)
  · rintro rfl; exact absurd h' (by simp)

/-- A bit whose complement is one is zero. -/
theorem zero_of_not {b : BitVec 1} : ~~~b = 1#1 → b = 0#1 := by
  revert b; decide

theorem or_one {a b : BitVec 1} : IntOp.ori a b = 1#1 → a = 1#1 ∨ b = 1#1 := by
  revert a b; decide

/-- The squared norm of a token's query. -/
def norm2 (X : FVec Ideal S2x2048x1024 .f32) (Q : FVec Ideal S1024x16x64 .f32) : FVec Ideal S2x2048x16 .f32 :=
  Host.reduceAdd (mulf (Host.dotGeneral dot_S2x2048x1024_S1024x16x64_S2x2048x16x64_2_0_01_12_n_n none X Q) (Host.dotGeneral dot_S2x2048x1024_S1024x16x64_S2x2048x16x64_2_0_01_12_n_n none X Q)) (constant S_ .f32 0x00000000#32) reducesTo_S2x2048x16x64_S2x2048x16_d3 h_S_

theorem norm2_apply (X : FVec Ideal S2x2048x1024 .f32) (Q : FVec Ideal S1024x16x64 .f32) (b : Fin 2) (t : Fin 2048) (n : Fin 16) :
    norm2 X Q (ix3 b t n) = ∑ x : Fin 64, (∑ d : Fin 1024, X (ix3 b t d) * Q (ix3 d n x)) * (∑ d : Fin 1024, X (ix3 b t d) * Q (ix3 d n x)) := by
  unfold norm2
  pointwise

/-- The precondition, at every element. -/
theorem facts_of (X : FVec Ideal S2x2048x1024 .f32) (mask : IVec S2x2048 1) (Q V : FVec Ideal S1024x16x64 .f32) (O : FVec Ideal S16x64x1024 .f32)
    (i5 : IVec S_ 32) (h : fn (F := Ideal) X mask Q V O i5 = fun _ => 1#1) :
    (∀ i, mask i = 0#1) ∧ (∀ i, X i ≠ ⊥ ∧ X i ≠ ⊤) ∧ (∀ i, Q i ≠ ⊥ ∧ Q i ≠ ⊤) ∧ (∀ i, V i ≠ ⊥ ∧ V i ≠ ⊤)
      ∧ ∀ i, norm2 X Q i = 0 ∨ Ideal.ofBits FTy.f32 0x1A9ABE15#32 ≤ norm2 X Q i := by
  have h0 := congrFun h (fun d => d.elim0)
  obtain ⟨h1, h25⟩ := IntOp.andi_eq_one.1 h0
  obtain ⟨h2, h18⟩ := IntOp.andi_eq_one.1 h1
  obtain ⟨h3, h13⟩ := IntOp.andi_eq_one.1 h2
  obtain ⟨h4, h8⟩ := IntOp.andi_eq_one.1 h3
  refine ⟨fun i => zero_of_not (Host.reduce_andi_all _ _ _ _ _ h4 i), fun i => finite_of_abs _ ?_, fun i => finite_of_abs _ ?_,
    fun i => finite_of_abs _ ?_, fun i => ?_⟩
  · rw [← word_top]; exact Host.reduce_andi_all _ _ _ _ _ h8 i
  · rw [← word_top]; exact Host.reduce_andi_all _ _ _ _ _ h13 i
  · rw [← word_top]; exact Host.reduce_andi_all _ _ _ _ _ h18 i
  · rcases or_one (Host.reduce_andi_all _ _ _ _ _ h25 i) with e | e
    · left
      have := of_decide_eq_true (ofBool_eq_one e)
      exact this.trans Ideal.ofBits_zero_f32
    · right
      exact of_decide_eq_true (ofBool_eq_one e)

end Cert.Pre_in_range.Attn
-- ==== Proof.Attn.Equal.lean ====
/- The kernel's result is the reference's. -/
module

public import proofs.«01_k».proof.Proof.Attn.Heads
public import proofs.«01_k».proof.Proof.Attn.Core
public import proofs.«01_k».proof.Proof.Attn.Ref
public import proofs.«01_k».proof.Proof.Attn.Pre
public import proofs.«01_k».proof.Proof.Gen.Pre_in_range

@[expose] public section

set_option maxRecDepth 16384

noncomputable section

namespace Cert.KernelIdeal.Attn

open Cert.KernelIdeal Cert.KernelIdeal.Gen
open Idealize.ShloMosaic Idealize.ShloMosaic.TcCoe
open Cert.ReferenceIdeal.Attn (rProj rKey rLogits rMax rExp rWeight rHeads rOut)

variable (X : FVec Ideal S2x2048x1024 .f32) (mask : IVec S2x2048 1) (Q V : FVec Ideal S1024x16x64 .f32) (O : FVec Ideal S16x64x1024 .f32)

/-- A head's queries over the reals. -/
def projReal (x : S2x2048x1024.Idx → ℝ) (w : S1024x16x64.Idx → ℝ) (b : Fin 2) (n : Fin 16) (t : Fin 2048) (y : Fin 64) : ℝ :=
  ∑ d : Fin 1024, x (ix3 b t d) * w (ix3 d n y)

section Real

variable (x : S2x2048x1024.Idx → ℝ) (q v : S1024x16x64.Idx → ℝ)
  (hX : X = fun i => ((x i : ℝ) : EReal)) (hQ : Q = fun i => ((q i : ℝ) : EReal)) (hV : V = fun i => ((v i : ℝ) : EReal))

include hX hV in
theorem proj_real (b : Fin 2) (n : Fin 16) (t : Fin 2048) (y : Fin 64) :
    (∑ d : Fin 1024, X (ix3 b t d) * V (ix3 d n y)) = ((projReal x v b n t y : ℝ) : EReal) := by
  subst hX hV
  simp only [← EReal.coe_mul, sum_coe]
  rfl

include hX hQ in
theorem qScaled_real (b : Fin 2) (n : Fin 16) (t : Fin 2048) (y : Fin 64) :
    qScaled X Q b n t y = ((projReal x q b n t y / 8 : ℝ) : EReal) := by
  subst hX hQ
  unfold qScaled
  have e : scaleWord = ((1 / 8 : ℝ) : EReal) := eighth_word
  rw [e]
  simp only [← EReal.coe_mul, sum_coe]
  congr 1
  unfold projReal
  rw [Finset.sum_div]
  exact Finset.sum_congr rfl fun d _ => by ring

variable (b : Fin 2) (n : Fin 16) (hq : ∀ t, sq (projReal x q b n) t = 0 ∨ 64 * floorReal ≤ sq (projReal x q b n) t)

include hX hQ hV hq in
theorem headAt_real (i : Fin 2048) (j : Fin 64) :
    headAt X Q V b n i j = ((headReal (projReal x q b n) (projReal x v b n) i j : ℝ) : EReal) := by
  unfold headAt
  have e1 : qScaled X Q b n = fun t y => ((projReal x q b n t y / 8 : ℝ) : EReal) := funext fun t => funext fun y => qScaled_real X Q x q hX hQ b n t y
  have e2 : proj X V b n = fun t y => ((projReal x v b n t y : ℝ) : EReal) := funext fun t => funext fun y => proj_real X V x v hX hV b n t y
  rw [e1, e2]
  exact head_kernel _ _ hq i j

include hX hQ hq in
theorem logits_real (hm : ∀ i, mask i = 0#1) (s t : Fin 2048) :
    rLogits (rProj X Q) (rKey (rProj X Q)) mask (ix4 b n s t) = rowLogit (projReal x q b n) s t := by
  have hp : ∀ t y, rProj X Q (ix4 b t n y) = ((projReal x q b n t y : ℝ) : EReal) := fun t y =>
    (Cert.ReferenceIdeal.Attn.rProj_apply X Q b t n y).trans (proj_real X Q x q hX hQ b n t y)
  have hk : ∀ t y, rKey (rProj X Q) (ix4 b t n y) = ((keyReal (projReal x q b n) t y : ℝ) : EReal) := fun t y => by
    rw [Cert.ReferenceIdeal.Attn.rKey_apply]
    simp only [hp, ← EReal.coe_mul, sum_coe]
    rw [norm_word]
    exact key_reference _ hq t y
  rw [Cert.ReferenceIdeal.Attn.rLogits_apply _ _ _ _ _ _ _ (hm _)]
  unfold rowLogit
  refine if_congr Iff.rfl rfl ?_
  simp only [hp, hk]
  rw [eighth_word]
  simp only [← EReal.coe_mul, sum_coe]
  congr 1
  exact Finset.sum_congr rfl fun y _ => by ring

include hX hQ hV hq in
theorem heads_real (hm : ∀ i, mask i = 0#1) (i : Fin 2048) (j : Fin 64) :
    rHeads (rProj X V) (rWeight (rExp (rLogits (rProj X Q) (rKey (rProj X Q)) mask) (rMax (rLogits (rProj X Q) (rKey (rProj X Q)) mask)))) (ix4 b i n j)
      = ((headReal (projReal x q b n) (projReal x v b n) i j : ℝ) : EReal) := by
  have hl := logits_real X mask Q x q hX hQ b n hq hm
  generalize rLogits (rProj X Q) (rKey (rProj X Q)) mask = l at hl ⊢
  rw [Cert.ReferenceIdeal.Attn.rHeads_apply]
  have hg : rMax l (ix3 b n i) = (Finset.univ : Finset (Fin 2048)).fold max ⊥ (rowLogit (projReal x q b n) i) := by
    rw [Cert.ReferenceIdeal.Attn.rMax_apply]
    exact congrArg (fun f => (Finset.univ : Finset (Fin 2048)).fold max ⊥ f) (funext fun t => hl i t)
  have hp : ∀ t, rProj X V (ix4 b t n j) = ((projReal x v b n t j : ℝ) : EReal) := fun t =>
    (Cert.ReferenceIdeal.Attn.rProj_apply X V b t n j).trans (proj_real X V x v hX hV b n t j)
  rw [← head_reference (projReal x q b n) (projReal x v b n) i j _ hg]
  refine Finset.sum_congr rfl fun t _ => ?_
  rw [hp, Cert.ReferenceIdeal.Attn.rWeight_apply]
  simp only [Cert.ReferenceIdeal.Attn.rExp_apply, hl]

end Real

/-- A sum over the columns of the heads laid side by side. -/
theorem sum_heads (f : Fin 16 → Fin 64 → EReal) :
    (∑ k : Fin 1024, f ⟨k.val / 64, by omega⟩ ⟨k.val % 64, by omega⟩) = ∑ y : Fin 64, ∑ n : Fin 16, f n y := by
  rw [Finset.sum_comm, ← Fintype.sum_prod_type' f]
  refine (Fintype.sum_equiv (finProdFinEquiv (m := 16) (n := 64)) _ _ fun p => ?_).symm
  have h2 := p.2.isLt
  congr 1 <;> refine Fin.ext ?_
  · show p.1.val = (p.2.val + 64 * p.1.val) / 64; omega
  · show p.2.val = (p.2.val + 64 * p.1.val) % 64; omega

/-- A finite number is a real one. -/
theorem real_of_finite {ι : Type*} (f : ι → EReal) (h : ∀ i, f i ≠ ⊥ ∧ f i ≠ ⊤) : ∃ g : ι → ℝ, f = fun i => ((g i : ℝ) : EReal) :=
  ⟨fun i => (f i).toReal, funext fun i => (EReal.coe_toReal (h i).2 (h i).1).symm⟩

/-- Under the precondition, the kernel's heads are the reference's. -/
theorem heads_equal (i5 : IVec Cert.Pre_in_range.S_ 32) (h : Cert.Pre_in_range.fn (F := Ideal) X mask Q V O i5 = fun _ => 1#1)
    (b : Fin 2) (n : Fin 16) (i : Fin 2048) (j : Fin 64) :
    headAt X Q V b n i j
      = rHeads (rProj X V) (rWeight (rExp (rLogits (rProj X Q) (rKey (rProj X Q)) mask) (rMax (rLogits (rProj X Q) (rKey (rProj X Q)) mask)))) (ix4 b i n j) := by
  obtain ⟨hm, fX, fQ, fV, hn⟩ := Cert.Pre_in_range.Attn.facts_of X mask Q V O i5 h
  obtain ⟨x, hX⟩ := real_of_finite X fX
  obtain ⟨q, hQ⟩ := real_of_finite Q fQ
  obtain ⟨v, hV⟩ := real_of_finite V fV
  have hq : ∀ t, sq (projReal x q b n) t = 0 ∨ 64 * floorReal ≤ sq (projReal x q b n) t := fun t => by
    have e : Cert.Pre_in_range.Attn.norm2 X Q (ix3 b t n) = ((sq (projReal x q b n) t : ℝ) : EReal) := by
      rw [Cert.Pre_in_range.Attn.norm2_apply]
      simp only [proj_real X Q x q hX hQ b n, ← EReal.coe_mul, sum_coe]
      rfl
    have := hn (ix3 b t n)
    rw [e, floor64_word] at this
    exact this.imp (fun h => EReal.coe_eq_zero.1 h) (fun h => EReal.coe_le_coe_iff.1 h)
  rw [headAt_real X Q V x q v hX hQ hV b n hq, heads_real X mask Q V x q v hX hQ hV b n hq hm]

/-- The kernel's result is the reference's, under the precondition. -/
theorem result_equal (m : (ℓ : Loc nD τ sig) → Buf (Elt Ideal) ℓ) (c : Dev nD)
    (m' : (ℓ : Loc Cert.ReferenceIdeal.nD Cert.ReferenceIdeal.τ Cert.ReferenceIdeal.sig) → Buf (Elt Ideal) ℓ) (i5 : IVec Cert.Pre_in_range.S_ 32)
    (h : Cert.Pre_in_range.fn (F := Ideal) (argX m c) mask (argQ m c) (argV m c) (argO m c) i5 = fun _ => 1#1)
    (h0 : m' ((c.tc : Thread Cert.ReferenceIdeal.nD Cert.ReferenceIdeal.τ).loc Cert.ReferenceIdeal.main_arg0) = argX m c)
    (h1 : m' ((c.tc : Thread Cert.ReferenceIdeal.nD Cert.ReferenceIdeal.τ).loc Cert.ReferenceIdeal.main_arg1) = mask)
    (h2 : m' ((c.tc : Thread Cert.ReferenceIdeal.nD Cert.ReferenceIdeal.τ).loc Cert.ReferenceIdeal.main_arg2) = argQ m c)
    (h3 : m' ((c.tc : Thread Cert.ReferenceIdeal.nD Cert.ReferenceIdeal.τ).loc Cert.ReferenceIdeal.main_arg3) = argV m c)
    (h4 : m' ((c.tc : Thread Cert.ReferenceIdeal.nD Cert.ReferenceIdeal.τ).loc Cert.ReferenceIdeal.main_arg4) = argO m c) :
    Cert.ReferenceIdeal.Value.res_out0 m' c = result m c := by
  rw [Cert.ReferenceIdeal.Attn.res_eq m' c _ _ _ _ _ h0 h1 h2 h3 h4]
  funext y
  obtain ⟨b, s, e, rfl⟩ : ∃ b s e, y = ix3 b s e := ⟨y 0, y 1, y 2, by funext a; match a with | ⟨0, _⟩ => rfl | ⟨1, _⟩ => rfl | ⟨2, _⟩ => rfl⟩
  rw [Cert.ReferenceIdeal.Attn.rOut_apply]
  have e2 : result m c (ix3 b s e) = ∑ k : Fin 1024, headAt (argX m c) (argQ m c) (argV m c) b ⟨k.val / 64, by omega⟩ s ⟨k.val % 64, by omega⟩
      * argO m c (ix3 ⟨k.val / 64, by omega⟩ ⟨k.val % 64, by omega⟩ e) := by
    unfold result
    exact Finset.sum_congr rfl fun k _ => congrArg (· * _) (gathered_eq m c b s k)
  rw [e2, sum_heads (fun n y => headAt (argX m c) (argQ m c) (argV m c) b n s y * argO m c (ix3 n y e))]
  refine Finset.sum_congr rfl fun y _ => Finset.sum_congr rfl fun n _ => ?_
  rw [heads_equal _ mask _ _ _ i5 h]

end Cert.KernelIdeal.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.Words.Frame
public import proofs.«01_k».proof.Proof.Attn.Out
public import proofs.«01_k».proof.Proof.Attn.Equal
public import Idealize.ShloMosaic.Adequacy
public import Idealize.ShloMosaic.Init

@[expose] public section

noncomputable section

namespace Cert.Proof

open Idealize.ShloMosaic Idealize.SL.Sem

/-- The kernel runs and leaves its arguments as they were. -/
theorem frame_kernel : Cert.quiescent_Kernel (hKernel := Cert.Kernel.Gen.facts) := fun m ρ _ => Cert.Kernel.Words.frame m ρ

/-- The same of the kernel read over the extended reals. -/
theorem frame_ideal : Cert.quiescent_KernelIdeal (hKernelIdeal := Cert.KernelIdeal.Gen.facts) := fun m ρ _ => Cert.KernelIdeal.Attn.frame m ρ

/-- The reference runs and leaves its arguments as they were; it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- Both end with the same result. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := fun m ρ m' ρ' hpre hagree =>
  ⟨fun c => Cert.KernelIdeal.Attn.result m c, Cert.KernelIdeal.Attn.run_result m ρ,
    (θ_run Cert.ReferenceIdeal.defs _ _).mono (fun r h c => ⟨(h c).1.trans (Cert.KernelIdeal.Attn.result_equal _ m c m' _ (hpre c)
        (hagree c).1 (hagree c).2.1 (hagree c).2.2.1 (hagree c).2.2.2.1 (hagree c).2.2.2.2.1), (h c).2⟩)
      (Cert.ReferenceIdeal.Value.run m' ρ')⟩

theorem claim : Cert.Claim :=
  ⟨Cert.Kernel.Gen.facts, Cert.KernelIdeal.Gen.facts, Cert.ReferenceIdeal.Gen.facts, Cert.Pre_in_range.Gen.facts,
    frame_kernel, frame_ideal, fun m ρ _ => frame_ideal m ρ trivial, frame_reference, fun m ρ _ => frame_reference m ρ trivial,
    trivial, algebraic⟩

end Cert.Proof

end
